-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_weights [hPre_finite_weights : Cert.Pre_finite_weights.Facts] (m : (ℓ : Loc Cert.CrossIdeal.nD Cert.CrossIdeal.τ Cert.CrossIdeal.sig) → Buf (Elt Ideal) ℓ) : Prop :=
  ∀ c : Dev Cert.CrossIdeal.nD,
    (Cert.Pre_finite_weights.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_weights [hPre_finite_weights : Cert.Pre_finite_weights.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_weights.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossIdeal_pre_finite_weights [hCrossIdeal : Cert.CrossIdeal.Facts] [hPre_finite_weights : Cert.Pre_finite_weights.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_weights m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_CrossRefIdeal_pre_finite_weights [hCrossRefIdeal : Cert.CrossRefIdeal.Facts] [hPre_finite_weights : Cert.Pre_finite_weights.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_weights m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def preserves_Attn_AttnIdeal : Prop :=
  IdealRules.named_const.Statement Cert.AttnIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Cross_CrossIdeal : Prop :=
  IdealRules.named_const.Statement Cert.CrossIdeal.κ "log2e_over_16" .f32 0x3DB8AA3B#32 (((Real.log 2)⁻¹ * (1 / 16) : ℝ) : EReal)

def algebraic_CrossIdeal_CrossRefIdeal_pre_finite_weights [hCrossIdeal : Cert.CrossIdeal.Facts] [hCrossRefIdeal : Cert.CrossRefIdeal.Facts] [hPre_finite_weights : Cert.Pre_finite_weights.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_weights m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v5)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v51) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)) (v3 : (c : Dev Cert.MixIdeal.nD) → Buf (Elt Ideal) ((c.tc : Thread Cert.MixIdeal.nD Cert.MixIdeal.τ).loc Cert.MixIdeal.main_v7_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_v7_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v60) = v0 c
          ∧ r.2.mem ((c.tc : Thread Cert.MixRefIdeal.nD Cert.MixRefIdeal.τ).loc Cert.MixRefIdeal.main_v61) = v1 c
          ∧ r.2.mem ((c.tc : Thread Cert.MixRefIdeal.nD Cert.MixRefIdeal.τ).loc Cert.MixRefIdeal.main_v64) = v2 c
          ∧ r.2.mem ((c.tc : Thread Cert.MixRefIdeal.nD Cert.MixRefIdeal.τ).loc Cert.MixRefIdeal.main_v65) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def Claim : Prop :=
  ∃ (hAttn : Cert.Attn.Facts) (hAttnIdeal : Cert.AttnIdeal.Facts) (hFfn : Cert.Ffn.Facts) (hFfnIdeal : Cert.FfnIdeal.Facts) (hFfnRefIdeal : Cert.FfnRefIdeal.Facts) (hCross : Cert.Cross.Facts) (hCrossIdeal : Cert.CrossIdeal.Facts) (hCrossRefIdeal : Cert.CrossRefIdeal.Facts) (hMix : Cert.Mix.Facts) (hMixIdeal : Cert.MixIdeal.Facts) (hMixRefIdeal : Cert.MixRefIdeal.Facts) (hPre_finite_weights : Cert.Pre_finite_weights.Facts),
    quiescent_Attn (hAttn := hAttn)
    ∧ quiescent_AttnIdeal (hAttnIdeal := hAttnIdeal)
    ∧ quiescent_Ffn (hFfn := hFfn)
    ∧ quiescent_FfnIdeal (hFfnIdeal := hFfnIdeal)
    ∧ quiescent_FfnRefIdeal (hFfnRefIdeal := hFfnRefIdeal)
    ∧ quiescent_Cross (hCross := hCross)
    ∧ quiescent_CrossIdeal (hCrossIdeal := hCrossIdeal)
    ∧ quiescent_CrossIdeal_pre_finite_weights (hCrossIdeal := hCrossIdeal) (hPre_finite_weights := hPre_finite_weights)
    ∧ quiescent_CrossRefIdeal (hCrossRefIdeal := hCrossRefIdeal)
    ∧ quiescent_CrossRefIdeal_pre_finite_weights (hCrossRefIdeal := hCrossRefIdeal) (hPre_finite_weights := hPre_finite_weights)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ preserves_Ffn_FfnIdeal
    ∧ algebraic_FfnIdeal_FfnRefIdeal (hFfnIdeal := hFfnIdeal) (hFfnRefIdeal := hFfnRefIdeal)
    ∧ preserves_Cross_CrossIdeal
    ∧ algebraic_CrossIdeal_CrossRefIdeal_pre_finite_weights (hCrossIdeal := hCrossIdeal) (hCrossRefIdeal := hCrossRefIdeal) (hPre_finite_weights := hPre_finite_weights)
    ∧ preserves_Mix_MixIdeal
    ∧ algebraic_MixIdeal_MixRefIdeal (hMixIdeal := hMixIdeal) (hMixRefIdeal := hMixRefIdeal)
-- ==== Pre_finite_weights.lean ====
abbrev S32x2048x1024 : Shape := ⟨3, ![32, 2048, 1024]⟩
abbrev S32x256x1024 : Shape := ⟨3, ![32, 256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S1024x2048_S1024x1024_0_0 : S1024x2048.Slices ![0, 0] S1024x1024

variable [Facts]

def fn_part1 {F : FTy → Type} [FloatOps F] (main_v13 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : IVec S_ 1 := andi main_v13 main_v18
  main_v19

def fn {F : FTy → Type} [FloatOps F] (main_arg0 : FVec F S32x2048x1024 .f32) (main_arg1 : FVec F S32x256x1024 .f32) (main_arg2 : FVec F S1024 .f32) (main_arg3 : FVec F S1024 .f32) (main_arg4 : FVec F S1024x1024 .f32) (main_arg5 : FVec F S1024x2048 .f32) (main_arg6 : FVec F S1024x1024 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := (extractStridedSlice S1024x1024 ![0, 0] · slices_S1024x2048_S1024x1024_0_0) main_arg5
  let main_v15 : FVec F S1024x1024 .f32 := Host.absf main_v14
  let main_cst_4 : FVec F S_ .f32 := constant S_ .f32 0x7F800000#32
  let main_v16 : FVec F S1024x1024 .f32 := broadcastInDim S1024x1024 ![] bcast_S_S1024x1024 main_cst_4
  fn_part1 (F := F) main_v13 main_v15 main_v16
-- ==== Attn.lean ====
abbrev S32x8x512x256 : Shape := ⟨4, ![32, 8, 512, 256]⟩
abbrev S32x2048x512 : Shape := ⟨3, ![32, 2048, 512]⟩
abbrev S32x64x2048 : Shape := ⟨3, ![32, 64, 2048]⟩
abbrev S32x2048x1024 : Shape := ⟨3, ![32, 2048, 1024]⟩
abbrev S512 : Shape := ⟨1, ![512]⟩
abbrev S1024x1024 : Shape := ⟨2, ![1024, 1024]⟩
abbrev S512x1 : Shape := ⟨2, ![512, 1]⟩
abbrev S512x256 : Shape := ⟨2, ![512, 256]⟩
abbrev S1x8x512x256 : Shape := ⟨4, ![1, 8, 512, 256]⟩
abbrev S1x2048x512 : Shape := ⟨3, ![1, 2048, 512]⟩
abbrev S1x64x256 : Shape := ⟨3, ![1, 64, 256]⟩
abbrev S1x256x512 : Shape := ⟨3, ![1, 256, 512]⟩
abbrev S1x256x1024 : Shape := ⟨3, ![1, 256, 1024]⟩
abbrev S1024x256 : Shape := ⟨2, ![1024, 256]⟩
abbrev S8x256x256 : Shape := ⟨3, ![8, 256, 256]⟩
abbrev S8x8x256 : Shape := ⟨3, ![8, 8, 256]⟩
abbrev S64x256 : Shape := ⟨2, ![64, 256]⟩
abbrev S16x256 : Shape := ⟨2, ![16, 256]⟩
abbrev S256x256 : Shape := ⟨2, ![256, 256]⟩
abbrev S1x1x64x256 : Shape := ⟨4, ![1, 1, 64, 256]⟩
abbrev S128x256 : Shape := ⟨2, ![128, 256]⟩
abbrev S1x256x128 : Shape := ⟨3, ![1, 256, 128]⟩
abbrev S256x128 : Shape := ⟨2, ![256, 128]⟩
abbrev S1x256x256 : Shape := ⟨3, ![1, 256, 256]⟩
abbrev S32x8x256 : Shape := ⟨3, ![32, 8, 256]⟩
abbrev S8x256 : Shape := ⟨2, ![8, 256]⟩
abbrev S1x8x256 : Shape := ⟨3, ![1, 8, 256]⟩
abbrev S1x1x256 : Shape := ⟨3, ![1, 1, 256]⟩
abbrev S1x256 : Shape := ⟨2, ![1, 256]⟩
abbrev S80x256 : Shape := ⟨2, ![80, 256]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩

abbrev nBuf : Space → Nat
  | .hbm => 11
  | .vmem => 24
  | .smem => 0
  | _ => 0

abbrev bufTy : (tb : Table) → Fin (tcTables nBuf tb) → BufTy
  | .hbm, ⟨0, _⟩ => ⟨S32x8x512x256, .bf16⟩
  | .hbm, ⟨1, _⟩ => ⟨S32x2048x512, .bf16⟩
  | .hbm, ⟨2, _⟩ => ⟨S32x8x512x256, .bf16⟩
  | .hbm, ⟨3, _⟩ => ⟨S32x64x2048, .f32⟩
  | .hbm, ⟨4, _⟩ => ⟨S32x2048x512, .bf16⟩
  | .hbm, ⟨5, _⟩ => ⟨S32x2048x1024, .f32⟩
  | .hbm, ⟨6, _⟩ => ⟨S512, .f32⟩
  | .hbm, ⟨7, _⟩ => ⟨S1024x1024, .bf16⟩
  | .hbm, ⟨8, _⟩ => ⟨S512x1, .f32⟩
  | .hbm, ⟨9, _⟩ => ⟨S512x256, .f32⟩
  | .hbm, ⟨10, _⟩ => ⟨S32x2048x1024, .f32⟩
  | .local _ .vmem, ⟨0, _⟩ => ⟨S1x8x512x256, .bf16⟩
  | .local _ .vmem, ⟨1, _⟩ => ⟨S1x8x512x256, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x64x256, .f32⟩
  | .local _ .vmem, ⟨7, _⟩ => ⟨S1x64x256, .f32⟩
  | .local _ .vmem, ⟨8, _⟩ => ⟨S1x256x512, .bf16⟩
  | .local _ .vmem, ⟨9, _⟩ => ⟨S1x256x512, .bf16⟩
  | .local _ .vmem, ⟨10, _⟩ => ⟨S1x256x1024, .f32⟩
  | .local _ .vmem, ⟨11, _⟩ => ⟨S1x256x1024, .f32⟩
  | .local _ .vmem, ⟨12, _⟩ => ⟨S512x256, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1024x256, .bf16⟩
  | .local _ .vmem, ⟨17, _⟩ => ⟨S8x256x256, .f32⟩
  | .local _ .vmem, ⟨18, _⟩ => ⟨S8x8x256, .f32⟩
  | .local _ .vmem, ⟨19, _⟩ => ⟨S8x256x256, .f32⟩
  | .local _ .vmem, ⟨20, _⟩ => ⟨S8x8x256, .f32⟩
  | .local _ .vmem, ⟨21, _⟩ => ⟨S8x8x256, .f32⟩
  | .local _ .vmem, ⟨22, _⟩ => ⟨S8x8x256, .f32⟩
  | .local _ .vmem, ⟨23, _⟩ => ⟨S512x256, .f32⟩
  | _, _ => ⟨S32x8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def k0_mult1 : BitVec 32 :=
  let c0_i32_83 : BitVec 32 := 0#32
  c0_i32_83
def k0_mult2 : BitVec 32 :=
  let c0_i32_99 : BitVec 32 := 0#32
  c0_i32_99
def k0_mult3 : BitVec 32 :=
  let c0_i32_115 : BitVec 32 := 0#32
  c0_i32_115
def k0_mult4 : BitVec 32 :=
  let c0_i32_131 : BitVec 32 := 0#32
  c0_i32_131
def k0_mult5 : BitVec 32 :=
  let c0_i32_147 : BitVec 32 := 0#32
  c0_i32_147
def k0_mult6 : BitVec 32 :=
  let c0_i32_163 : BitVec 32 := 0#32
  c0_i32_163
def k0_mult7 : BitVec 32 :=
  let c0_i32_179 : BitVec 32 := 0#32
  c0_i32_179
def k0_mult8 : BitVec 32 :=
  let c0_i32_195 : BitVec 32 := 0#32
  c0_i32_195
@[reducible] def k0_t1_loop (i : grid0.Coords) : Scf.Loop 32 :=
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_20 : BitVec 32 := 1#32
  ⟨c0_i32_18, v41, c1_i32_20⟩
def k0_off1 (i : grid0.Coords) (k0_t1 : Fin (k0_t1_loop i).trips) (c0_i32_51 : BitVec 32) : Fin 3 → Nat :=
  let c0_52 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c1_i32_49 : BitVec 32 := 1#32
  let v85 : BitVec 32 := Scalar.subi v81 c1_i32_49
  let c0_i32_50 : BitVec 32 := 0#32
  let v86 : BitVec 32 := Scalar.maxsi v85 c0_i32_50
  let c8_i32 : BitVec 32 := 8#32
  let v87 : BitVec 32 := Scalar.muli v86 c8_i32
  let v88 : BitVec 32 := Scalar.addi v87 c0_i32_51
  let v89 : Index := Scalar.indexCast v88
  let c0_53 : Index := 0#32
  ![0, v89.toNat, 0]
def k0_off2 (i : grid0.Coords) (k0_t1 : Fin (k0_t1_loop i).trips) : Fin 4 → Nat :=
  let c0_65 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_47 : BitVec 32 := 0#32
  let v82 : BitVec 1 := Scalar.cmpi .eq v81 c0_i32_47
  let arg1 : BitVec 32 := BitVec.ofNat 32 (i 1).val
  let c1_i32_48 : BitVec 32 := 1#32
  let v83 : BitVec 32 := Scalar.subi v81 c1_i32_48
  let v84 : BitVec 32 := Scalar.select v82 arg1 v83
  let v113 : Index := Scalar.indexCast v84
  let c0_66 : Index := 0#32
  let c0_67 : Index := 0#32
  ![0, v113.toNat, 0, 0]
def k0_mult9 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32 : BitVec 32 := 256#32
  let v143 : BitVec 32 := Scalar.muli v81 c256_i32
  v143
def k0_off3 (i : grid0.Coords) (k0_t1 : Fin (k0_t1_loop i).trips) : Fin 3 → Nat :=
  let c0_82 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32 : BitVec 32 := 256#32
  let v143 : BitVec 32 := Scalar.muli v81 c256_i32
  let v144 : BitVec 32 := v143
  let v145 : Index := Scalar.indexCast v144
  let c0_83 : Index := 0#32
  ![0, v145.toNat, 0]
def k0_off4 (i : grid0.Coords) (k0_t1 : Fin (k0_t1_loop i).trips) : Fin 4 → Nat :=
  let c0_114 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_96 : BitVec 32 := 0#32
  let v164 : BitVec 1 := Scalar.cmpi .eq v81 c0_i32_96
  let arg1 : BitVec 32 := BitVec.ofNat 32 (i 1).val
  let c1_i32_97 : BitVec 32 := 1#32
  let v165 : BitVec 32 := Scalar.subi v81 c1_i32_97
  let v166 : BitVec 32 := Scalar.select v164 arg1 v165
  let v195 : Index := Scalar.indexCast v166
  let c64 : Index := 64#32
  let c0_115 : Index := 0#32
  ![0, v195.toNat, 64, 0]
def k0_mult10 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_130 : BitVec 32 := 256#32
  let v225 : BitVec 32 := Scalar.muli v81 c256_i32_130
  v225
def k0_off5 (i : grid0.Coords) (k0_t1 : Fin (k0_t1_loop i).trips) : Fin 4 → Nat :=
  let c0_163 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_145 : BitVec 32 := 0#32
  let v246 : BitVec 1 := Scalar.cmpi .eq v81 c0_i32_145
  let arg1 : BitVec 32 := BitVec.ofNat 32 (i 1).val
  let c1_i32_146 : BitVec 32 := 1#32
  let v247 : BitVec 32 := Scalar.subi v81 c1_i32_146
  let v248 : BitVec 32 := Scalar.select v246 arg1 v247
  let v277 : Index := Scalar.indexCast v248
  let c128_164 : Index := 128#32
  let c0_165 : Index := 0#32
  ![0, v277.toNat, 128, 0]
def k0_mult11 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_180 : BitVec 32 := 256#32
  let v307 : BitVec 32 := Scalar.muli v81 c256_i32_180
  v307
def k0_off6 (i : grid0.Coords) (k0_t1 : Fin (k0_t1_loop i).trips) : Fin 3 → Nat :=
  let c0_181 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_180 : BitVec 32 := 256#32
  let v307 : BitVec 32 := Scalar.muli v81 c256_i32_180
  let v308 : BitVec 32 := v307
  let v309 : Index := Scalar.indexCast v308
  let c128_182 : Index := 128#32
  ![0, v309.toNat, 128]
def k0_off7 (i : grid0.Coords) (k0_t1 : Fin (k0_t1_loop i).trips) : Fin 4 → Nat :=
  let c0_212 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_195 : BitVec 32 := 0#32
  let v328 : BitVec 1 := Scalar.cmpi .eq v81 c0_i32_195
  let arg1 : BitVec 32 := BitVec.ofNat 32 (i 1).val
  let c1_i32_196 : BitVec 32 := 1#32
  let v329 : BitVec 32 := Scalar.subi v81 c1_i32_196
  let v330 : BitVec 32 := Scalar.select v328 arg1 v329
  let v359 : Index := Scalar.indexCast v330
  let c192 : Index := 192#32
  let c0_213 : Index := 0#32
  ![0, v359.toNat, 192, 0]
def k0_mult12 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_228 : BitVec 32 := 256#32
  let v389 : BitVec 32 := Scalar.muli v81 c256_i32_228
  v389
def k0_off8 (i : grid0.Coords) (k0_t1 : Fin (k0_t1_loop i).trips) : Fin 4 → Nat :=
  let c0_261 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_243 : BitVec 32 := 0#32
  let v410 : BitVec 1 := Scalar.cmpi .eq v81 c0_i32_243
  let arg1 : BitVec 32 := BitVec.ofNat 32 (i 1).val
  let c1_i32_244 : BitVec 32 := 1#32
  let v411 : BitVec 32 := Scalar.subi v81 c1_i32_244
  let v412 : BitVec 32 := Scalar.select v410 arg1 v411
  let v441 : Index := Scalar.indexCast v412
  let c256_262 : Index := 256#32
  let c0_263 : Index := 0#32
  ![0, v441.toNat, 256, 0]
def k0_mult13 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_278 : BitVec 32 := 256#32
  let v471 : BitVec 32 := Scalar.muli v81 c256_i32_278
  v471
def k0_off9 (i : grid0.Coords) (k0_t1 : Fin (k0_t1_loop i).trips) : Fin 3 → Nat :=
  let c0_279 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_278 : BitVec 32 := 256#32
  let v471 : BitVec 32 := Scalar.muli v81 c256_i32_278
  let v472 : BitVec 32 := v471
  let v473 : Index := Scalar.indexCast v472
  let c256_280 : Index := 256#32
  ![0, v473.toNat, 256]
def k0_off10 (i : grid0.Coords) (k0_t1 : Fin (k0_t1_loop i).trips) : Fin 4 → Nat :=
  let c0_310 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_293 : BitVec 32 := 0#32
  let v492 : BitVec 1 := Scalar.cmpi .eq v81 c0_i32_293
  let arg1 : BitVec 32 := BitVec.ofNat 32 (i 1).val
  let c1_i32_294 : BitVec 32 := 1#32
  let v493 : BitVec 32 := Scalar.subi v81 c1_i32_294
  let v494 : BitVec 32 := Scalar.select v492 arg1 v493
  let v523 : Index := Scalar.indexCast v494
  let c320 : Index := 320#32
  let c0_311 : Index := 0#32
  ![0, v523.toNat, 320, 0]
def k0_mult14 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_326 : BitVec 32 := 256#32
  let v553 : BitVec 32 := Scalar.muli v81 c256_i32_326
  v553
def k0_off11 (i : grid0.Coords) (k0_t1 : Fin (k0_t1_loop i).trips) : Fin 4 → Nat :=
  let c0_358 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_341 : BitVec 32 := 0#32
  let v574 : BitVec 1 := Scalar.cmpi .eq v81 c0_i32_341
  let arg1 : BitVec 32 := BitVec.ofNat 32 (i 1).val
  let c1_i32_342 : BitVec 32 := 1#32
  let v575 : BitVec 32 := Scalar.subi v81 c1_i32_342
  let v576 : BitVec 32 := Scalar.select v574 arg1 v575
  let v605 : Index := Scalar.indexCast v576
  let c384_359 : Index := 384#32
  let c0_360 : Index := 0#32
  ![0, v605.toNat, 384, 0]
def k0_mult15 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_375 : BitVec 32 := 256#32
  let v635 : BitVec 32 := Scalar.muli v81 c256_i32_375
  v635
def k0_off12 (i : grid0.Coords) (k0_t1 : Fin (k0_t1_loop i).trips) : Fin 3 → Nat :=
  let c0_376 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_375 : BitVec 32 := 256#32
  let v635 : BitVec 32 := Scalar.muli v81 c256_i32_375
  let v636 : BitVec 32 := v635
  let v637 : Index := Scalar.indexCast v636
  let c384_377 : Index := 384#32
  ![0, v637.toNat, 384]
def k0_off13 (i : grid0.Coords) (k0_t1 : Fin (k0_t1_loop i).trips) : Fin 4 → Nat :=
  let c0_407 : Index := 0#32
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c0_i32_390 : BitVec 32 := 0#32
  let v656 : BitVec 1 := Scalar.cmpi .eq v81 c0_i32_390
  let arg1 : BitVec 32 := BitVec.ofNat 32 (i 1).val
  let c1_i32_391 : BitVec 32 := 1#32
  let v657 : BitVec 32 := Scalar.subi v81 c1_i32_391
  let v658 : BitVec 32 := Scalar.select v656 arg1 v657
  let v687 : Index := Scalar.indexCast v658
  let c448 : Index := 448#32
  let c0_408 : Index := 0#32
  ![0, v687.toNat, 448, 0]
def k0_mult16 (i : grid0.Coords) (k0_t1 : Fin (k0_t1_loop i).trips) : BitVec 32 :=
  let c2_i32_46 : BitVec 32 := 2#32
  let c0_i32_18 : BitVec 32 := 0#32
  let c1_i32_20 : BitVec 32 := 1#32
  let arg19 : BitVec 32 := Scf.iv c0_i32_18 c1_i32_20 k0_t1
  let v81 : BitVec 32 := Scalar.muli c2_i32_46 arg19
  let c256_i32_423 : BitVec 32 := 256#32
  let v717 : BitVec 32 := Scalar.muli v81 c256_i32_423
  v717
def k0_off14 (i : grid0.Coords) (k0_t1 : Fin (k0_t1_loop i).trips) (c0_i32_445 : BitVec 32) : Fin 3 → Nat :=
  let c0_446 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c1_i32_442 : BitVec 32 := 1#32
  let v743 : BitVec 32 := Scalar.subi v739 c1_i32_442
  let c0_i32_443 : BitVec 32 := 0#32
  let v744 : BitVec 32 := Scalar.maxsi v743 c0_i32_443
  let c8_i32_444 : BitVec 32 := 8#32
  let v745 : BitVec 32 := Scalar.muli v744 c8_i32_444
  let v746 : BitVec 32 := Scalar.addi v745 c0_i32_445
  let v747 : Index := Scalar.indexCast v746
  let c0_447 : Index := 0#32
  ![0, v747.toNat, 0]
def k0_off15 (i : grid0.Coords) (k0_t1 : Fin (k0_t1_loop i).trips) : Fin 4 → Nat :=
  let c0_459 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_440 : BitVec 32 := 0#32
  let v740 : BitVec 1 := Scalar.cmpi .eq v739 c0_i32_440
  let arg1 : BitVec 32 := BitVec.ofNat 32 (i 1).val
  let c1_i32_441 : BitVec 32 := 1#32
  let v741 : BitVec 32 := Scalar.subi v739 c1_i32_441
  let v742 : BitVec 32 := Scalar.select v740 arg1 v741
  let v771 : Index := Scalar.indexCast v742
  let c0_460 : Index := 0#32
  let c0_461 : Index := 0#32
  ![0, v771.toNat, 0, 0]
def k0_mult17 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_476 : BitVec 32 := 256#32
  let v801 : BitVec 32 := Scalar.muli v739 c256_i32_476
  v801
def k0_off16 (i : grid0.Coords) (k0_t1 : Fin (k0_t1_loop i).trips) : Fin 3 → Nat :=
  let c0_477 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_476 : BitVec 32 := 256#32
  let v801 : BitVec 32 := Scalar.muli v739 c256_i32_476
  let v802 : BitVec 32 := v801
  let v803 : Index := Scalar.indexCast v802
  let c0_478 : Index := 0#32
  ![0, v803.toNat, 0]
def k0_off17 (i : grid0.Coords) (k0_t1 : Fin (k0_t1_loop i).trips) : Fin 4 → Nat :=
  let c0_511 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_492 : BitVec 32 := 0#32
  let v822 : BitVec 1 := Scalar.cmpi .eq v739 c0_i32_492
  let arg1 : BitVec 32 := BitVec.ofNat 32 (i 1).val
  let c1_i32_493 : BitVec 32 := 1#32
  let v823 : BitVec 32 := Scalar.subi v739 c1_i32_493
  let v824 : BitVec 32 := Scalar.select v822 arg1 v823
  let v853 : Index := Scalar.indexCast v824
  let c64_512 : Index := 64#32
  let c0_513 : Index := 0#32
  ![0, v853.toNat, 64, 0]
def k0_mult18 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_528 : BitVec 32 := 256#32
  let v883 : BitVec 32 := Scalar.muli v739 c256_i32_528
  v883
def k0_off18 (i : grid0.Coords) (k0_t1 : Fin (k0_t1_loop i).trips) : Fin 4 → Nat :=
  let c0_563 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_544 : BitVec 32 := 0#32
  let v904 : BitVec 1 := Scalar.cmpi .eq v739 c0_i32_544
  let arg1 : BitVec 32 := BitVec.ofNat 32 (i 1).val
  let c1_i32_545 : BitVec 32 := 1#32
  let v905 : BitVec 32 := Scalar.subi v739 c1_i32_545
  let v906 : BitVec 32 := Scalar.select v904 arg1 v905
  let v935 : Index := Scalar.indexCast v906
  let c128_564 : Index := 128#32
  let c0_565 : Index := 0#32
  ![0, v935.toNat, 128, 0]
def k0_mult19 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_580 : BitVec 32 := 256#32
  let v965 : BitVec 32 := Scalar.muli v739 c256_i32_580
  v965
def k0_off19 (i : grid0.Coords) (k0_t1 : Fin (k0_t1_loop i).trips) : Fin 3 → Nat :=
  let c0_581 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_580 : BitVec 32 := 256#32
  let v965 : BitVec 32 := Scalar.muli v739 c256_i32_580
  let v966 : BitVec 32 := v965
  let v967 : Index := Scalar.indexCast v966
  let c128_582 : Index := 128#32
  ![0, v967.toNat, 128]
def k0_off20 (i : grid0.Coords) (k0_t1 : Fin (k0_t1_loop i).trips) : Fin 4 → Nat :=
  let c0_615 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_596 : BitVec 32 := 0#32
  let v986 : BitVec 1 := Scalar.cmpi .eq v739 c0_i32_596
  let arg1 : BitVec 32 := BitVec.ofNat 32 (i 1).val
  let c1_i32_597 : BitVec 32 := 1#32
  let v987 : BitVec 32 := Scalar.subi v739 c1_i32_597
  let v988 : BitVec 32 := Scalar.select v986 arg1 v987
  let v1017 : Index := Scalar.indexCast v988
  let c192_616 : Index := 192#32
  let c0_617 : Index := 0#32
  ![0, v1017.toNat, 192, 0]
def k0_mult20 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_632 : BitVec 32 := 256#32
  let v1047 : BitVec 32 := Scalar.muli v739 c256_i32_632
  v1047
def k0_off21 (i : grid0.Coords) (k0_t1 : Fin (k0_t1_loop i).trips) : Fin 4 → Nat :=
  let c0_667 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_648 : BitVec 32 := 0#32
  let v1068 : BitVec 1 := Scalar.cmpi .eq v739 c0_i32_648
  let arg1 : BitVec 32 := BitVec.ofNat 32 (i 1).val
  let c1_i32_649 : BitVec 32 := 1#32
  let v1069 : BitVec 32 := Scalar.subi v739 c1_i32_649
  let v1070 : BitVec 32 := Scalar.select v1068 arg1 v1069
  let v1099 : Index := Scalar.indexCast v1070
  let c256_668 : Index := 256#32
  let c0_669 : Index := 0#32
  ![0, v1099.toNat, 256, 0]
def k0_mult21 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_684 : BitVec 32 := 256#32
  let v1129 : BitVec 32 := Scalar.muli v739 c256_i32_684
  v1129
def k0_off22 (i : grid0.Coords) (k0_t1 : Fin (k0_t1_loop i).trips) : Fin 3 → Nat :=
  let c0_685 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_684 : BitVec 32 := 256#32
  let v1129 : BitVec 32 := Scalar.muli v739 c256_i32_684
  let v1130 : BitVec 32 := v1129
  let v1131 : Index := Scalar.indexCast v1130
  let c256_686 : Index := 256#32
  ![0, v1131.toNat, 256]
def k0_off23 (i : grid0.Coords) (k0_t1 : Fin (k0_t1_loop i).trips) : Fin 4 → Nat :=
  let c0_719 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_700 : BitVec 32 := 0#32
  let v1150 : BitVec 1 := Scalar.cmpi .eq v739 c0_i32_700
  let arg1 : BitVec 32 := BitVec.ofNat 32 (i 1).val
  let c1_i32_701 : BitVec 32 := 1#32
  let v1151 : BitVec 32 := Scalar.subi v739 c1_i32_701
  let v1152 : BitVec 32 := Scalar.select v1150 arg1 v1151
  let v1181 : Index := Scalar.indexCast v1152
  let c320_720 : Index := 320#32
  let c0_721 : Index := 0#32
  ![0, v1181.toNat, 320, 0]
def k0_mult22 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_736 : BitVec 32 := 256#32
  let v1211 : BitVec 32 := Scalar.muli v739 c256_i32_736
  v1211
def k0_off24 (i : grid0.Coords) (k0_t1 : Fin (k0_t1_loop i).trips) : Fin 4 → Nat :=
  let c0_771 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_752 : BitVec 32 := 0#32
  let v1232 : BitVec 1 := Scalar.cmpi .eq v739 c0_i32_752
  let arg1 : BitVec 32 := BitVec.ofNat 32 (i 1).val
  let c1_i32_753 : BitVec 32 := 1#32
  let v1233 : BitVec 32 := Scalar.subi v739 c1_i32_753
  let v1234 : BitVec 32 := Scalar.select v1232 arg1 v1233
  let v1263 : Index := Scalar.indexCast v1234
  let c384_772 : Index := 384#32
  let c0_773 : Index := 0#32
  ![0, v1263.toNat, 384, 0]
def k0_mult23 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_788 : BitVec 32 := 256#32
  let v1293 : BitVec 32 := Scalar.muli v739 c256_i32_788
  v1293
def k0_off25 (i : grid0.Coords) (k0_t1 : Fin (k0_t1_loop i).trips) : Fin 3 → Nat :=
  let c0_789 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_788 : BitVec 32 := 256#32
  let v1293 : BitVec 32 := Scalar.muli v739 c256_i32_788
  let v1294 : BitVec 32 := v1293
  let v1295 : Index := Scalar.indexCast v1294
  let c384_790 : Index := 384#32
  ![0, v1295.toNat, 384]
def k0_off26 (i : grid0.Coords) (k0_t1 : Fin (k0_t1_loop i).trips) : Fin 4 → Nat :=
  let c0_823 : Index := 0#32
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c0_i32_804 : BitVec 32 := 0#32
  let v1314 : BitVec 1 := Scalar.cmpi .eq v739 c0_i32_804
  let arg1 : BitVec 32 := BitVec.ofNat 32 (i 1).val
  let c1_i32_805 : BitVec 32 := 1#32
  let v1315 : BitVec 32 := Scalar.subi v739 c1_i32_805
  let v1316 : BitVec 32 := Scalar.select v1314 arg1 v1315
  let v1345 : Index := Scalar.indexCast v1316
  let c448_824 : Index := 448#32
  let c0_825 : Index := 0#32
  ![0, v1345.toNat, 448, 0]
def k0_mult24 (i : grid0.Coords) (k0_t1 : Fin (k0_t1_loop i).trips) : BitVec 32 :=
  let c2_i32_438 : BitVec 32 := 2#32
  let c0_i32_18 : BitVec 32 := 0#32
  let c1_i32_20 : BitVec 32 := 1#32
  let arg19 : BitVec 32 := Scf.iv c0_i32_18 c1_i32_20 k0_t1
  let v738 : BitVec 32 := Scalar.muli c2_i32_438 arg19
  let c1_i32_439 : BitVec 32 := 1#32
  let v739 : BitVec 32 := Scalar.addi v738 c1_i32_439
  let c256_i32_840 : BitVec 32 := 256#32
  let v1375 : BitVec 32 := Scalar.muli v739 c256_i32_840
  v1375
@[reducible] def k0_t2_loop (i : grid0.Coords) : Scf.Loop 32 :=
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let v38 : BitVec 32 := Scalar.addi c0_i32_18 v37
  let c1_i32_21 : BitVec 32 := 1#32
  ⟨v41, v38, c1_i32_21⟩
def k0_off27 (i : grid0.Coords) (k0_t2 : Fin (k0_t2_loop i).trips) (c0_i32_51 : BitVec 32) : Fin 3 → Nat :=
  let c0_52 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c1_i32_49 : BitVec 32 := 1#32
  let v85 : BitVec 32 := Scalar.subi v81 c1_i32_49
  let c0_i32_50 : BitVec 32 := 0#32
  let v86 : BitVec 32 := Scalar.maxsi v85 c0_i32_50
  let c8_i32 : BitVec 32 := 8#32
  let v87 : BitVec 32 := Scalar.muli v86 c8_i32
  let v88 : BitVec 32 := Scalar.addi v87 c0_i32_51
  let v89 : Index := Scalar.indexCast v88
  let c0_53 : Index := 0#32
  ![0, v89.toNat, 0]
def k0_off28 (i : grid0.Coords) (k0_t2 : Fin (k0_t2_loop i).trips) : Fin 4 → Nat :=
  let c0_65 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_47 : BitVec 32 := 0#32
  let v82 : BitVec 1 := Scalar.cmpi .eq v81 c0_i32_47
  let c1_i32_48 : BitVec 32 := 1#32
  let v83 : BitVec 32 := Scalar.subi v81 c1_i32_48
  let v84 : BitVec 32 := Scalar.select v82 arg1 v83
  let v113 : Index := Scalar.indexCast v84
  let c0_66 : Index := 0#32
  let c0_67 : Index := 0#32
  ![0, v113.toNat, 0, 0]
def k0_mult25 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32 : BitVec 32 := 256#32
  let v143 : BitVec 32 := Scalar.muli v81 c256_i32
  v143
def k0_off29 (i : grid0.Coords) (k0_t2 : Fin (k0_t2_loop i).trips) : Fin 3 → Nat :=
  let c0_82 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32 : BitVec 32 := 256#32
  let v143 : BitVec 32 := Scalar.muli v81 c256_i32
  let v144 : BitVec 32 := v143
  let v145 : Index := Scalar.indexCast v144
  let c0_83 : Index := 0#32
  ![0, v145.toNat, 0]
def k0_off30 (i : grid0.Coords) (k0_t2 : Fin (k0_t2_loop i).trips) : Fin 4 → Nat :=
  let c0_114 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_96 : BitVec 32 := 0#32
  let v164 : BitVec 1 := Scalar.cmpi .eq v81 c0_i32_96
  let c1_i32_97 : BitVec 32 := 1#32
  let v165 : BitVec 32 := Scalar.subi v81 c1_i32_97
  let v166 : BitVec 32 := Scalar.select v164 arg1 v165
  let v195 : Index := Scalar.indexCast v166
  let c64 : Index := 64#32
  let c0_115 : Index := 0#32
  ![0, v195.toNat, 64, 0]
def k0_mult26 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_130 : BitVec 32 := 256#32
  let v225 : BitVec 32 := Scalar.muli v81 c256_i32_130
  v225
def k0_off31 (i : grid0.Coords) (k0_t2 : Fin (k0_t2_loop i).trips) : Fin 4 → Nat :=
  let c0_163 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_145 : BitVec 32 := 0#32
  let v246 : BitVec 1 := Scalar.cmpi .eq v81 c0_i32_145
  let c1_i32_146 : BitVec 32 := 1#32
  let v247 : BitVec 32 := Scalar.subi v81 c1_i32_146
  let v248 : BitVec 32 := Scalar.select v246 arg1 v247
  let v277 : Index := Scalar.indexCast v248
  let c128_164 : Index := 128#32
  let c0_165 : Index := 0#32
  ![0, v277.toNat, 128, 0]
def k0_mult27 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_180 : BitVec 32 := 256#32
  let v307 : BitVec 32 := Scalar.muli v81 c256_i32_180
  v307
def k0_off32 (i : grid0.Coords) (k0_t2 : Fin (k0_t2_loop i).trips) : Fin 3 → Nat :=
  let c0_181 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_180 : BitVec 32 := 256#32
  let v307 : BitVec 32 := Scalar.muli v81 c256_i32_180
  let v308 : BitVec 32 := v307
  let v309 : Index := Scalar.indexCast v308
  let c128_182 : Index := 128#32
  ![0, v309.toNat, 128]
def k0_off33 (i : grid0.Coords) (k0_t2 : Fin (k0_t2_loop i).trips) : Fin 4 → Nat :=
  let c0_212 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_195 : BitVec 32 := 0#32
  let v328 : BitVec 1 := Scalar.cmpi .eq v81 c0_i32_195
  let c1_i32_196 : BitVec 32 := 1#32
  let v329 : BitVec 32 := Scalar.subi v81 c1_i32_196
  let v330 : BitVec 32 := Scalar.select v328 arg1 v329
  let v359 : Index := Scalar.indexCast v330
  let c192 : Index := 192#32
  let c0_213 : Index := 0#32
  ![0, v359.toNat, 192, 0]
def k0_mult28 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_228 : BitVec 32 := 256#32
  let v389 : BitVec 32 := Scalar.muli v81 c256_i32_228
  v389
def k0_off34 (i : grid0.Coords) (k0_t2 : Fin (k0_t2_loop i).trips) : Fin 4 → Nat :=
  let c0_261 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_243 : BitVec 32 := 0#32
  let v410 : BitVec 1 := Scalar.cmpi .eq v81 c0_i32_243
  let c1_i32_244 : BitVec 32 := 1#32
  let v411 : BitVec 32 := Scalar.subi v81 c1_i32_244
  let v412 : BitVec 32 := Scalar.select v410 arg1 v411
  let v441 : Index := Scalar.indexCast v412
  let c256_262 : Index := 256#32
  let c0_263 : Index := 0#32
  ![0, v441.toNat, 256, 0]
def k0_mult29 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_278 : BitVec 32 := 256#32
  let v471 : BitVec 32 := Scalar.muli v81 c256_i32_278
  v471
def k0_off35 (i : grid0.Coords) (k0_t2 : Fin (k0_t2_loop i).trips) : Fin 3 → Nat :=
  let c0_279 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_278 : BitVec 32 := 256#32
  let v471 : BitVec 32 := Scalar.muli v81 c256_i32_278
  let v472 : BitVec 32 := v471
  let v473 : Index := Scalar.indexCast v472
  let c256_280 : Index := 256#32
  ![0, v473.toNat, 256]
def k0_off36 (i : grid0.Coords) (k0_t2 : Fin (k0_t2_loop i).trips) : Fin 4 → Nat :=
  let c0_310 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_293 : BitVec 32 := 0#32
  let v492 : BitVec 1 := Scalar.cmpi .eq v81 c0_i32_293
  let c1_i32_294 : BitVec 32 := 1#32
  let v493 : BitVec 32 := Scalar.subi v81 c1_i32_294
  let v494 : BitVec 32 := Scalar.select v492 arg1 v493
  let v523 : Index := Scalar.indexCast v494
  let c320 : Index := 320#32
  let c0_311 : Index := 0#32
  ![0, v523.toNat, 320, 0]
def k0_mult30 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_326 : BitVec 32 := 256#32
  let v553 : BitVec 32 := Scalar.muli v81 c256_i32_326
  v553
def k0_off37 (i : grid0.Coords) (k0_t2 : Fin (k0_t2_loop i).trips) : Fin 4 → Nat :=
  let c0_358 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_341 : BitVec 32 := 0#32
  let v574 : BitVec 1 := Scalar.cmpi .eq v81 c0_i32_341
  let c1_i32_342 : BitVec 32 := 1#32
  let v575 : BitVec 32 := Scalar.subi v81 c1_i32_342
  let v576 : BitVec 32 := Scalar.select v574 arg1 v575
  let v605 : Index := Scalar.indexCast v576
  let c384_359 : Index := 384#32
  let c0_360 : Index := 0#32
  ![0, v605.toNat, 384, 0]
def k0_mult31 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_375 : BitVec 32 := 256#32
  let v635 : BitVec 32 := Scalar.muli v81 c256_i32_375
  v635
def k0_off38 (i : grid0.Coords) (k0_t2 : Fin (k0_t2_loop i).trips) : Fin 3 → Nat :=
  let c0_376 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_375 : BitVec 32 := 256#32
  let v635 : BitVec 32 := Scalar.muli v81 c256_i32_375
  let v636 : BitVec 32 := v635
  let v637 : Index := Scalar.indexCast v636
  let c384_377 : Index := 384#32
  ![0, v637.toNat, 384]
def k0_off39 (i : grid0.Coords) (k0_t2 : Fin (k0_t2_loop i).trips) : Fin 4 → Nat :=
  let c0_407 : Index := 0#32
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c0_i32_390 : BitVec 32 := 0#32
  let v656 : BitVec 1 := Scalar.cmpi .eq v81 c0_i32_390
  let c1_i32_391 : BitVec 32 := 1#32
  let v657 : BitVec 32 := Scalar.subi v81 c1_i32_391
  let v658 : BitVec 32 := Scalar.select v656 arg1 v657
  let v687 : Index := Scalar.indexCast v658
  let c448 : Index := 448#32
  let c0_408 : Index := 0#32
  ![0, v687.toNat, 448, 0]
def k0_mult32 (i : grid0.Coords) (k0_t2 : Fin (k0_t2_loop i).trips) : BitVec 32 :=
  let c2_i32_46 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v81 : BitVec 32 := Scalar.muli c2_i32_46 arg19
  let c256_i32_423 : BitVec 32 := 256#32
  let v717 : BitVec 32 := Scalar.muli v81 c256_i32_423
  v717
def k0_off40 (i : grid0.Coords) (k0_t2 : Fin (k0_t2_loop i).trips) (c0_i32_445 : BitVec 32) : Fin 3 → Nat :=
  let c0_446 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c1_i32_442 : BitVec 32 := 1#32
  let v743 : BitVec 32 := Scalar.subi v739 c1_i32_442
  let c0_i32_443 : BitVec 32 := 0#32
  let v744 : BitVec 32 := Scalar.maxsi v743 c0_i32_443
  let c8_i32_444 : BitVec 32 := 8#32
  let v745 : BitVec 32 := Scalar.muli v744 c8_i32_444
  let v746 : BitVec 32 := Scalar.addi v745 c0_i32_445
  let v747 : Index := Scalar.indexCast v746
  let c0_447 : Index := 0#32
  ![0, v747.toNat, 0]
def k0_off41 (i : grid0.Coords) (k0_t2 : Fin (k0_t2_loop i).trips) : Fin 4 → Nat :=
  let c0_459 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_440 : BitVec 32 := 0#32
  let v740 : BitVec 1 := Scalar.cmpi .eq v739 c0_i32_440
  let c1_i32_441 : BitVec 32 := 1#32
  let v741 : BitVec 32 := Scalar.subi v739 c1_i32_441
  let v742 : BitVec 32 := Scalar.select v740 arg1 v741
  let v771 : Index := Scalar.indexCast v742
  let c0_460 : Index := 0#32
  let c0_461 : Index := 0#32
  ![0, v771.toNat, 0, 0]
def k0_mult33 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_476 : BitVec 32 := 256#32
  let v801 : BitVec 32 := Scalar.muli v739 c256_i32_476
  v801
def k0_off42 (i : grid0.Coords) (k0_t2 : Fin (k0_t2_loop i).trips) : Fin 3 → Nat :=
  let c0_477 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_476 : BitVec 32 := 256#32
  let v801 : BitVec 32 := Scalar.muli v739 c256_i32_476
  let v802 : BitVec 32 := v801
  let v803 : Index := Scalar.indexCast v802
  let c0_478 : Index := 0#32
  ![0, v803.toNat, 0]
def k0_off43 (i : grid0.Coords) (k0_t2 : Fin (k0_t2_loop i).trips) : Fin 4 → Nat :=
  let c0_511 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_492 : BitVec 32 := 0#32
  let v822 : BitVec 1 := Scalar.cmpi .eq v739 c0_i32_492
  let c1_i32_493 : BitVec 32 := 1#32
  let v823 : BitVec 32 := Scalar.subi v739 c1_i32_493
  let v824 : BitVec 32 := Scalar.select v822 arg1 v823
  let v853 : Index := Scalar.indexCast v824
  let c64_512 : Index := 64#32
  let c0_513 : Index := 0#32
  ![0, v853.toNat, 64, 0]
def k0_mult34 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_528 : BitVec 32 := 256#32
  let v883 : BitVec 32 := Scalar.muli v739 c256_i32_528
  v883
def k0_off44 (i : grid0.Coords) (k0_t2 : Fin (k0_t2_loop i).trips) : Fin 4 → Nat :=
  let c0_563 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_544 : BitVec 32 := 0#32
  let v904 : BitVec 1 := Scalar.cmpi .eq v739 c0_i32_544
  let c1_i32_545 : BitVec 32 := 1#32
  let v905 : BitVec 32 := Scalar.subi v739 c1_i32_545
  let v906 : BitVec 32 := Scalar.select v904 arg1 v905
  let v935 : Index := Scalar.indexCast v906
  let c128_564 : Index := 128#32
  let c0_565 : Index := 0#32
  ![0, v935.toNat, 128, 0]
def k0_mult35 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_580 : BitVec 32 := 256#32
  let v965 : BitVec 32 := Scalar.muli v739 c256_i32_580
  v965
def k0_off45 (i : grid0.Coords) (k0_t2 : Fin (k0_t2_loop i).trips) : Fin 3 → Nat :=
  let c0_581 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_580 : BitVec 32 := 256#32
  let v965 : BitVec 32 := Scalar.muli v739 c256_i32_580
  let v966 : BitVec 32 := v965
  let v967 : Index := Scalar.indexCast v966
  let c128_582 : Index := 128#32
  ![0, v967.toNat, 128]
def k0_off46 (i : grid0.Coords) (k0_t2 : Fin (k0_t2_loop i).trips) : Fin 4 → Nat :=
  let c0_615 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_596 : BitVec 32 := 0#32
  let v986 : BitVec 1 := Scalar.cmpi .eq v739 c0_i32_596
  let c1_i32_597 : BitVec 32 := 1#32
  let v987 : BitVec 32 := Scalar.subi v739 c1_i32_597
  let v988 : BitVec 32 := Scalar.select v986 arg1 v987
  let v1017 : Index := Scalar.indexCast v988
  let c192_616 : Index := 192#32
  let c0_617 : Index := 0#32
  ![0, v1017.toNat, 192, 0]
def k0_mult36 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_632 : BitVec 32 := 256#32
  let v1047 : BitVec 32 := Scalar.muli v739 c256_i32_632
  v1047
def k0_off47 (i : grid0.Coords) (k0_t2 : Fin (k0_t2_loop i).trips) : Fin 4 → Nat :=
  let c0_667 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_648 : BitVec 32 := 0#32
  let v1068 : BitVec 1 := Scalar.cmpi .eq v739 c0_i32_648
  let c1_i32_649 : BitVec 32 := 1#32
  let v1069 : BitVec 32 := Scalar.subi v739 c1_i32_649
  let v1070 : BitVec 32 := Scalar.select v1068 arg1 v1069
  let v1099 : Index := Scalar.indexCast v1070
  let c256_668 : Index := 256#32
  let c0_669 : Index := 0#32
  ![0, v1099.toNat, 256, 0]
def k0_mult37 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_684 : BitVec 32 := 256#32
  let v1129 : BitVec 32 := Scalar.muli v739 c256_i32_684
  v1129
def k0_off48 (i : grid0.Coords) (k0_t2 : Fin (k0_t2_loop i).trips) : Fin 3 → Nat :=
  let c0_685 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_684 : BitVec 32 := 256#32
  let v1129 : BitVec 32 := Scalar.muli v739 c256_i32_684
  let v1130 : BitVec 32 := v1129
  let v1131 : Index := Scalar.indexCast v1130
  let c256_686 : Index := 256#32
  ![0, v1131.toNat, 256]
def k0_off49 (i : grid0.Coords) (k0_t2 : Fin (k0_t2_loop i).trips) : Fin 4 → Nat :=
  let c0_719 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_700 : BitVec 32 := 0#32
  let v1150 : BitVec 1 := Scalar.cmpi .eq v739 c0_i32_700
  let c1_i32_701 : BitVec 32 := 1#32
  let v1151 : BitVec 32 := Scalar.subi v739 c1_i32_701
  let v1152 : BitVec 32 := Scalar.select v1150 arg1 v1151
  let v1181 : Index := Scalar.indexCast v1152
  let c320_720 : Index := 320#32
  let c0_721 : Index := 0#32
  ![0, v1181.toNat, 320, 0]
def k0_mult38 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_736 : BitVec 32 := 256#32
  let v1211 : BitVec 32 := Scalar.muli v739 c256_i32_736
  v1211
def k0_off50 (i : grid0.Coords) (k0_t2 : Fin (k0_t2_loop i).trips) : Fin 4 → Nat :=
  let c0_771 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_752 : BitVec 32 := 0#32
  let v1232 : BitVec 1 := Scalar.cmpi .eq v739 c0_i32_752
  let c1_i32_753 : BitVec 32 := 1#32
  let v1233 : BitVec 32 := Scalar.subi v739 c1_i32_753
  let v1234 : BitVec 32 := Scalar.select v1232 arg1 v1233
  let v1263 : Index := Scalar.indexCast v1234
  let c384_772 : Index := 384#32
  let c0_773 : Index := 0#32
  ![0, v1263.toNat, 384, 0]
def k0_mult39 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_788 : BitVec 32 := 256#32
  let v1293 : BitVec 32 := Scalar.muli v739 c256_i32_788
  v1293
def k0_off51 (i : grid0.Coords) (k0_t2 : Fin (k0_t2_loop i).trips) : Fin 3 → Nat :=
  let c0_789 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_788 : BitVec 32 := 256#32
  let v1293 : BitVec 32 := Scalar.muli v739 c256_i32_788
  let v1294 : BitVec 32 := v1293
  let v1295 : Index := Scalar.indexCast v1294
  let c384_790 : Index := 384#32
  ![0, v1295.toNat, 384]
def k0_off52 (i : grid0.Coords) (k0_t2 : Fin (k0_t2_loop i).trips) : Fin 4 → Nat :=
  let c0_823 : Index := 0#32
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c0_i32_804 : BitVec 32 := 0#32
  let v1314 : BitVec 1 := Scalar.cmpi .eq v739 c0_i32_804
  let c1_i32_805 : BitVec 32 := 1#32
  let v1315 : BitVec 32 := Scalar.subi v739 c1_i32_805
  let v1316 : BitVec 32 := Scalar.select v1314 arg1 v1315
  let v1345 : Index := Scalar.indexCast v1316
  let c448_824 : Index := 448#32
  let c0_825 : Index := 0#32
  ![0, v1345.toNat, 448, 0]
def k0_mult40 (i : grid0.Coords) (k0_t2 : Fin (k0_t2_loop i).trips) : BitVec 32 :=
  let c2_i32_438 : BitVec 32 := 2#32
  let c0_i32_18 : BitVec 32 := 0#32
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .slt arg1 c0_i32_13
  let v24 : BitVec 32 := Scalar.extui v23
  let v25 : BitVec 32 := Scalar.subi v22 v24
  let c2_i32 : BitVec 32 := 2#32
  let c0_i32_14 : BitVec 32 := 0#32
  let v26 : BitVec 1 := Scalar.cmpi .sgt c2_i32 c0_i32_14
  let v27 : BitVec 32 := Scalar.extui v26
  let c0_i32_15 : BitVec 32 := 0#32
  let v28 : BitVec 1 := Scalar.cmpi .slt c2_i32 c0_i32_15
  let v29 : BitVec 32 := Scalar.extui v28
  let v30 : BitVec 32 := Scalar.subi v27 v29
  let v31 : BitVec 1 := Scalar.cmpi .ne v25 v30
  let v32 : BitVec 32 := Scalar.remsi arg1 c2_i32
  let c0_i32_16 : BitVec 32 := 0#32
  let v33 : BitVec 1 := Scalar.cmpi .ne v32 c0_i32_16
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg19 : BitVec 32 := Scf.iv v41 c1_i32_21 k0_t2
  let v738 : BitVec 32 := Scalar.muli c2_i32_438 arg19
  let c1_i32_439 : BitVec 32 := 1#32
  let v739 : BitVec 32 := Scalar.addi v738 c1_i32_439
  let c256_i32_840 : BitVec 32 := 256#32
  let v1375 : BitVec 32 := Scalar.muli v739 c256_i32_840
  v1375
def k0_cond2 (i : grid0.Coords) : BitVec 1 :=
  let arg1 : BitVec 32 := BitVec.ofNat 32 (i 1).val
  let c2_i32_22 : BitVec 32 := 2#32
  let c0_i32_23 : BitVec 32 := 0#32
  let v42 : BitVec 1 := Scalar.cmpi .eq c2_i32_22 c0_i32_23
  let c1_i32_24 : BitVec 32 := 1#32
  let v43 : BitVec 32 := Scalar.select v42 c1_i32_24 c2_i32_22
  let v44 : BitVec 32 := Scalar.remsi arg1 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c1_i32_28 : BitVec 32 := 1#32
  let v52 : BitVec 1 := Scalar.cmpi .eq v51 c1_i32_28
  let v53 : BitVec 32 := Scalar.extui v52
  let c0_i32_29 : BitVec 32 := 0#32
  let v54 : BitVec 1 := Scalar.cmpi .ne v53 c0_i32_29
  v54

def k0_off53 (i : grid0.Coords) (c0_i32_51 : BitVec 32) : Fin 3 → Nat :=
  let c0_52 : Index := 0#32
  let arg1 : BitVec 32 := BitVec.ofNat 32 (i 1).val
  let c1_i32_46 : BitVec 32 := 1#32
  let v81 : BitVec 32 := Scalar.subi arg1 c1_i32_46
  let c1_i32_49 : BitVec 32 := 1#32
  let v85 : BitVec 32 := Scalar.subi v81 c1_i32_49
  let c0_i32_50 : BitVec 32 := 0#32
  let v86 : BitVec 32 := Scalar.maxsi v85 c0_i32_50
  let c8_i32 : BitVec 32 := 8#32
  let v87 : BitVec 32 := Scalar.muli v86 c8_i32
  let v88 : BitVec 32 := Scalar.addi v87 c0_i32_51
  let v89 : Index := Scalar.indexCast v88
  let c0_53 : Index := 0#32
  ![0, v89.toNat, 0]
def k0_off54 (i : grid0.Coords) : Fin 4 → Nat :=
  let c0_65 : Index := 0#32
  let arg1 : BitVec 32 := BitVec.ofNat 32 (i 1).val
  let c1_i32_46 : BitVec 32 := 1#32
  let v81 : BitVec 32 := Scalar.subi arg1 c1_i32_46
  let c0_i32_47 : BitVec 32 := 0#32
  let v82 : BitVec 1 := Scalar.cmpi .eq v81 c0_i32_47
  let c1_i32_48 : BitVec 32 := 1#32
  let v83 : BitVec 32 := Scalar.subi v81 c1_i32_48
  let v84 : BitVec 32 := Scalar.select v82 arg1 v83
  let v113 : Index := Scalar.indexCast v84
  let c0_66 : Index := 0#32
  let c0_67 : Index := 0#32
  ![0, v113.toNat, 0, 0]
def k0_mult41 (i : grid0.Coords) : BitVec 32 :=
  let arg1 : BitVec 32 := BitVec.ofNat 32 (i 1).val
  let c1_i32_46 : BitVec 32 := 1#32
  let v81 : BitVec 32 := Scalar.subi arg1 c1_i32_46
  let c256_i32 : BitVec 32 := 256#32
  let v143 : BitVec 32 := Scalar.muli v81 c256_i32
  v143
def k0_off55 (i : grid0.Coords) : Fin 3 → Nat :=
  let c0_82 : Index := 0#32
  let arg1 : BitVec 32 := BitVec.ofNat 32 (i 1).val
  let c1_i32_46 : BitVec 32 := 1#32
  let v81 : BitVec 32 := Scalar.subi arg1 c1_i32_46
  let c256_i32 : BitVec 32 := 256#32
  let v143 : BitVec 32 := Scalar.muli v81 c256_i32
  let v144 : BitVec 32 := v143
  let v145 : Index := Scalar.indexCast v144
  let c0_83 : Index := 0#32
  ![0, v145.toNat, 0]
def k0_off56 (i : grid0.Coords) : Fin 4 → Nat :=
  let c0_114 : Index := 0#32
  let arg1 : BitVec 32 := BitVec.ofNat 32 (i 1).val
  let c1_i32_46 : BitVec 32 := 1#32
  let v81 : BitVec 32 := Scalar.subi arg1 c1_i32_46
  let c0_i32_96 : BitVec 32 := 0#32
  let v164 : BitVec 1 := Scalar.cmpi .eq v81 c0_i32_96
  let c1_i32_97 : BitVec 32 := 1#32
  let v165 : BitVec 32 := Scalar.subi v81 c1_i32_97
  let v166 : BitVec 32 := Scalar.select v164 arg1 v165
  let v195 : Index := Scalar.indexCast v166
  let c64 : Index := 64#32
  let c0_115 : Index := 0#32
  ![0, v195.toNat, 64, 0]
def k0_mult42 (i : grid0.Coords) : BitVec 32 :=
  let arg1 : BitVec 32 := BitVec.ofNat 32 (i 1).val
  let c1_i32_46 : BitVec 32 := 1#32
  let v81 : BitVec 32 := Scalar.subi arg1 c1_i32_46
  let c256_i32_130 : BitVec 32 := 256#32
  let v225 : BitVec 32 := Scalar.muli v81 c256_i32_130
  v225
def k0_off57 (i : grid0.Coords) : Fin 4 → Nat :=
  let c0_163 : Index := 0#32
  let arg1 : BitVec 32 := BitVec.ofNat 32 (i 1).val
  let c1_i32_46 : BitVec 32 := 1#32
  let v81 : BitVec 32 := Scalar.subi arg1 c1_i32_46
  let c0_i32_145 : BitVec 32 := 0#32
  let v246 : BitVec 1 := Scalar.cmpi .eq v81 c0_i32_145
  let c1_i32_146 : BitVec 32 := 1#32
  let v247 : BitVec 32 := Scalar.subi v81 c1_i32_146
  let v248 : BitVec 32 := Scalar.select v246 arg1 v247
  let v277 : Index := Scalar.indexCast v248
  let c128_164 : Index := 128#32
  let c0_165 : Index := 0#32
  ![0, v277.toNat, 128, 0]
def k0_mult43 (i : grid0.Coords) : BitVec 32 :=
  let arg1 : BitVec 32 := BitVec.ofNat 32 (i 1).val
  let c1_i32_46 : BitVec 32 := 1#32
  let v81 : BitVec 32 := Scalar.subi arg1 c1_i32_46
  let c256_i32_180 : BitVec 32 := 256#32
  let v307 : BitVec 32 := Scalar.muli v81 c256_i32_180
  v307
def k0_off58 (i : grid0.Coords) : Fin 3 → Nat :=
  let c0_181 : Index := 0#32
  let arg1 : BitVec 32 := BitVec.ofNat 32 (i 1).val
  let c1_i32_46 : BitVec 32 := 1#32
  let v81 : BitVec 32 := Scalar.subi arg1 c1_i32_46
  let c256_i32_180 : BitVec 32 := 256#32
  let v307 : BitVec 32 := Scalar.muli v81 c256_i32_180
  let v308 : BitVec 32 := v307
  let v309 : Index := Scalar.indexCast v308
  let c128_182 : Index := 128#32
  ![0, v309.toNat, 128]
def k0_off59 (i : grid0.Coords) : Fin 4 → Nat :=
  let c0_212 : Index := 0#32
  let arg1 : BitVec 32 := BitVec.ofNat 32 (i 1).val
  let c1_i32_46 : BitVec 32 := 1#32
  let v81 : BitVec 32 := Scalar.subi arg1 c1_i32_46
  let c0_i32_195 : BitVec 32 := 0#32
  let v328 : BitVec 1 := Scalar.cmpi .eq v81 c0_i32_195
  let c1_i32_196 : BitVec 32 := 1#32
  let v329 : BitVec 32 := Scalar.subi v81 c1_i32_196
  let v330 : BitVec 32 := Scalar.select v328 arg1 v329
  let v359 : Index := Scalar.indexCast v330
  let c192 : Index := 192#32
  let c0_213 : Index := 0#32
  ![0, v359.toNat, 192, 0]
def k0_mult44 (i : grid0.Coords) : BitVec 32 :=
  let arg1 : BitVec 32 := BitVec.ofNat 32 (i 1).val
  let c1_i32_46 : BitVec 32 := 1#32
  let v81 : BitVec 32 := Scalar.subi arg1 c1_i32_46
  let c256_i32_228 : BitVec 32 := 256#32
  let v389 : BitVec 32 := Scalar.muli v81 c256_i32_228
  v389
def k0_off60 (i : grid0.Coords) : Fin 4 → Nat :=
  let c0_261 : Index := 0#32
  let arg1 : BitVec 32 := BitVec.ofNat 32 (i 1).val
  let c1_i32_46 : BitVec 32 := 1#32
  let v81 : BitVec 32 := Scalar.subi arg1 c1_i32_46
  let c0_i32_243 : BitVec 32 := 0#32
  let v410 : BitVec 1 := Scalar.cmpi .eq v81 c0_i32_243
  let c1_i32_244 : BitVec 32 := 1#32
  let v411 : BitVec 32 := Scalar.subi v81 c1_i32_244
  let v412 : BitVec 32 := Scalar.select v410 arg1 v411
  let v441 : Index := Scalar.indexCast v412
  let c256_262 : Index := 256#32
  let c0_263 : Index := 0#32
  ![0, v441.toNat, 256, 0]
def k0_mult45 (i : grid0.Coords) : BitVec 32 :=
  let arg1 : BitVec 32 := BitVec.ofNat 32 (i 1).val
  let c1_i32_46 : BitVec 32 := 1#32
  let v81 : BitVec 32 := Scalar.subi arg1 c1_i32_46
  let c256_i32_278 : BitVec 32 := 256#32
  let v471 : BitVec 32 := Scalar.muli v81 c256_i32_278
  v471
def k0_off61 (i : grid0.Coords) : Fin 3 → Nat :=
  let c0_279 : Index := 0#32
  let arg1 : BitVec 32 := BitVec.ofNat 32 (i 1).val
  let c1_i32_46 : BitVec 32 := 1#32
  let v81 : BitVec 32 := Scalar.subi arg1 c1_i32_46
  let c256_i32_278 : BitVec 32 := 256#32
  let v471 : BitVec 32 := Scalar.muli v81 c256_i32_278
  let v472 : BitVec 32 := v471
  let v473 : Index := Scalar.indexCast v472
  let c256_280 : Index := 256#32
  ![0, v473.toNat, 256]
def k0_off62 (i : grid0.Coords) : Fin 4 → Nat :=
  let c0_310 : Index := 0#32
  let arg1 : BitVec 32 := BitVec.ofNat 32 (i 1).val
  let c1_i32_46 : BitVec 32 := 1#32
  let v81 : BitVec 32 := Scalar.subi arg1 c1_i32_46
  let c0_i32_293 : BitVec 32 := 0#32
  let v492 : BitVec 1 := Scalar.cmpi .eq v81 c0_i32_293
  let c1_i32_294 : BitVec 32 := 1#32
  let v493 : BitVec 32 := Scalar.subi v81 c1_i32_294
  let v494 : BitVec 32 := Scalar.select v492 arg1 v493
  let v523 : Index := Scalar.indexCast v494
  let c320 : Index := 320#32
  let c0_311 : Index := 0#32
  ![0, v523.toNat, 320, 0]
def k0_mult46 (i : grid0.Coords) : BitVec 32 :=
  let arg1 : BitVec 32 := BitVec.ofNat 32 (i 1).val
  let c1_i32_46 : BitVec 32 := 1#32
  let v81 : BitVec 32 := Scalar.subi arg1 c1_i32_46
  let c256_i32_326 : BitVec 32 := 256#32
  let v553 : BitVec 32 := Scalar.muli v81 c256_i32_326
  v553
def k0_off63 (i : grid0.Coords) : Fin 4 → Nat :=
  let c0_358 : Index := 0#32
  let arg1 : BitVec 32 := BitVec.ofNat 32 (i 1).val
  let c1_i32_46 : BitVec 32 := 1#32
  let v81 : BitVec 32 := Scalar.subi arg1 c1_i32_46
  let c0_i32_341 : BitVec 32 := 0#32
  let v574 : BitVec 1 := Scalar.cmpi .eq v81 c0_i32_341
  let c1_i32_342 : BitVec 32 := 1#32
  let v575 : BitVec 32 := Scalar.subi v81 c1_i32_342
  let v576 : BitVec 32 := Scalar.select v574 arg1 v575
  let v605 : Index := Scalar.indexCast v576
  let c384_359 : Index := 384#32
  let c0_360 : Index := 0#32
  ![0, v605.toNat, 384, 0]
def k0_mult47 (i : grid0.Coords) : BitVec 32 :=
  let arg1 : BitVec 32 := BitVec.ofNat 32 (i 1).val
  let c1_i32_46 : BitVec 32 := 1#32
  let v81 : BitVec 32 := Scalar.subi arg1 c1_i32_46
  let c256_i32_375 : BitVec 32 := 256#32
  let v635 : BitVec 32 := Scalar.muli v81 c256_i32_375
  v635
def k0_off64 (i : grid0.Coords) : Fin 3 → Nat :=
  let c0_376 : Index := 0#32
  let arg1 : BitVec 32 := BitVec.ofNat 32 (i 1).val
  let c1_i32_46 : BitVec 32 := 1#32
  let v81 : BitVec 32 := Scalar.subi arg1 c1_i32_46
  let c256_i32_375 : BitVec 32 := 256#32
  let v635 : BitVec 32 := Scalar.muli v81 c256_i32_375
  let v636 : BitVec 32 := v635
  let v637 : Index := Scalar.indexCast v636
  let c384_377 : Index := 384#32
  ![0, v637.toNat, 384]
def k0_off65 (i : grid0.Coords) : Fin 4 → Nat :=
  let c0_407 : Index := 0#32
  let arg1 : BitVec 32 := BitVec.ofNat 32 (i 1).val
  let c1_i32_46 : BitVec 32 := 1#32
  let v81 : BitVec 32 := Scalar.subi arg1 c1_i32_46
  let c0_i32_390 : BitVec 32 := 0#32
  let v656 : BitVec 1 := Scalar.cmpi .eq v81 c0_i32_390
  let c1_i32_391 : BitVec 32 := 1#32
  let v657 : BitVec 32 := Scalar.subi v81 c1_i32_391
  let v658 : BitVec 32 := Scalar.select v656 arg1 v657
  let v687 : Index := Scalar.indexCast v658
  let c448 : Index := 448#32
  let c0_408 : Index := 0#32
  ![0, v687.toNat, 448, 0]
def k0_mult48 (i : grid0.Coords) : BitVec 32 :=
  let arg1 : BitVec 32 := BitVec.ofNat 32 (i 1).val
  let c1_i32_46 : BitVec 32 := 1#32
  let v81 : BitVec 32 := Scalar.subi arg1 c1_i32_46
  let c256_i32_423 : BitVec 32 := 256#32
  let v717 : BitVec 32 := Scalar.muli v81 c256_i32_423
  v717
def k0_cond3 (i : grid0.Coords) : BitVec 1 :=
  let arg1 : BitVec 32 := BitVec.ofNat 32 (i 1).val
  let c2_i32_30 : BitVec 32 := 2#32
  let c0_i32_31 : BitVec 32 := 0#32
  let v55 : BitVec 1 := Scalar.cmpi .eq c2_i32_30 c0_i32_31
  let c1_i32_32 : BitVec 32 := 1#32
  let v56 : BitVec 32 := Scalar.select v55 c1_i32_32 c2_i32_30
  let v57 : BitVec 32 := Scalar.remsi arg1 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c0_i32_36 : BitVec 32 := 0#32
  let v65 : BitVec 1 := Scalar.cmpi .eq v64 c0_i32_36
  let v66 : BitVec 32 := Scalar.extui v65
  let c0_i32_37 : BitVec 32 := 0#32
  let v67 : BitVec 1 := Scalar.cmpi .ne v66 c0_i32_37
  v67

def k0_off66 (i : grid0.Coords) : Fin 4 → Nat :=
  let c0_47 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v83 : Index := Scalar.indexCast v82
  let c0_48 : Index := 0#32
  let c0_49 : Index := 0#32
  ![0, v83.toNat, 0, 0]
def k0_off67 (i : grid0.Coords) : Fin 4 → Nat :=
  let c0_52 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v90 : Index := Scalar.indexCast v82
  let c64 : Index := 64#32
  let c0_53 : Index := 0#32
  ![0, v90.toNat, 64, 0]
def k0_off68 (i : grid0.Coords) : Fin 4 → Nat :=
  let c0_55 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v97 : Index := Scalar.indexCast v82
  let c128_56 : Index := 128#32
  let c0_57 : Index := 0#32
  ![0, v97.toNat, 128, 0]
def k0_off69 (i : grid0.Coords) : Fin 4 → Nat :=
  let c0_59 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v104 : Index := Scalar.indexCast v82
  let c192 : Index := 192#32
  let c0_60 : Index := 0#32
  ![0, v104.toNat, 192, 0]
def k0_off70 (i : grid0.Coords) : Fin 4 → Nat :=
  let c0_62 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v111 : Index := Scalar.indexCast v82
  let c256_63 : Index := 256#32
  let c0_64 : Index := 0#32
  ![0, v111.toNat, 256, 0]
def k0_off71 (i : grid0.Coords) : Fin 4 → Nat :=
  let c0_66 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v118 : Index := Scalar.indexCast v82
  let c320 : Index := 320#32
  let c0_67 : Index := 0#32
  ![0, v118.toNat, 320, 0]
def k0_off72 (i : grid0.Coords) : Fin 4 → Nat :=
  let c0_69 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v125 : Index := Scalar.indexCast v82
  let c384_70 : Index := 384#32
  let c0_71 : Index := 0#32
  ![0, v125.toNat, 384, 0]
def k0_off73 (i : grid0.Coords) : Fin 4 → Nat :=
  let c0_73 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v132 : Index := Scalar.indexCast v82
  let c448 : Index := 448#32
  let c0_74 : Index := 0#32
  ![0, v132.toNat, 448, 0]
def k0_off74 (i : grid0.Coords) (c0_i32_80 : BitVec 32) : Fin 3 → Nat :=
  let c0_81 : Index := 0#32
  let arg1 : BitVec 32 := BitVec.ofNat 32 (i 1).val
  let c1_i32_78 : BitVec 32 := 1#32
  let v142 : BitVec 32 := Scalar.subi arg1 c1_i32_78
  let c0_i32_79 : BitVec 32 := 0#32
  let v143 : BitVec 32 := Scalar.maxsi v142 c0_i32_79
  let c8_i32 : BitVec 32 := 8#32
  let v144 : BitVec 32 := Scalar.muli v143 c8_i32
  let v145 : BitVec 32 := Scalar.addi v144 c0_i32_80
  let v146 : Index := Scalar.indexCast v145
  let c0_82 : Index := 0#32
  ![0, v146.toNat, 0]
def k0_off75 (i : grid0.Coords) : Fin 4 → Nat :=
  let c0_94 : Index := 0#32
  let arg1 : BitVec 32 := BitVec.ofNat 32 (i 1).val
  let c0_i32_76 : BitVec 32 := 0#32
  let v139 : BitVec 1 := Scalar.cmpi .eq arg1 c0_i32_76
  let c1_i32_77 : BitVec 32 := 1#32
  let v140 : BitVec 32 := Scalar.subi arg1 c1_i32_77
  let v141 : BitVec 32 := Scalar.select v139 arg1 v140
  let v170 : Index := Scalar.indexCast v141
  let c0_95 : Index := 0#32
  let c0_96 : Index := 0#32
  ![0, v170.toNat, 0, 0]
def k0_mult49 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32 : BitVec 32 := 256#32
  let v200 : BitVec 32 := Scalar.muli v82 c256_i32
  v200
def k0_off76 (i : grid0.Coords) : Fin 3 → Nat :=
  let c0_111 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32 : BitVec 32 := 256#32
  let v200 : BitVec 32 := Scalar.muli v82 c256_i32
  let v201 : BitVec 32 := v200
  let v202 : Index := Scalar.indexCast v201
  let c0_112 : Index := 0#32
  ![0, v202.toNat, 0]
def k0_off77 (i : grid0.Coords) : Fin 4 → Nat :=
  let c0_144 : Index := 0#32
  let arg1 : BitVec 32 := BitVec.ofNat 32 (i 1).val
  let c0_i32_126 : BitVec 32 := 0#32
  let v223 : BitVec 1 := Scalar.cmpi .eq arg1 c0_i32_126
  let c1_i32_127 : BitVec 32 := 1#32
  let v224 : BitVec 32 := Scalar.subi arg1 c1_i32_127
  let v225 : BitVec 32 := Scalar.select v223 arg1 v224
  let v254 : Index := Scalar.indexCast v225
  let c64_145 : Index := 64#32
  let c0_146 : Index := 0#32
  ![0, v254.toNat, 64, 0]
def k0_mult50 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_161 : BitVec 32 := 256#32
  let v284 : BitVec 32 := Scalar.muli v82 c256_i32_161
  v284
def k0_off78 (i : grid0.Coords) : Fin 4 → Nat :=
  let c0_196 : Index := 0#32
  let arg1 : BitVec 32 := BitVec.ofNat 32 (i 1).val
  let c0_i32_178 : BitVec 32 := 0#32
  let v307 : BitVec 1 := Scalar.cmpi .eq arg1 c0_i32_178
  let c1_i32_179 : BitVec 32 := 1#32
  let v308 : BitVec 32 := Scalar.subi arg1 c1_i32_179
  let v309 : BitVec 32 := Scalar.select v307 arg1 v308
  let v338 : Index := Scalar.indexCast v309
  let c128_197 : Index := 128#32
  let c0_198 : Index := 0#32
  ![0, v338.toNat, 128, 0]
def k0_mult51 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_213 : BitVec 32 := 256#32
  let v368 : BitVec 32 := Scalar.muli v82 c256_i32_213
  v368
def k0_off79 (i : grid0.Coords) : Fin 3 → Nat :=
  let c0_214 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_213 : BitVec 32 := 256#32
  let v368 : BitVec 32 := Scalar.muli v82 c256_i32_213
  let v369 : BitVec 32 := v368
  let v370 : Index := Scalar.indexCast v369
  let c128_215 : Index := 128#32
  ![0, v370.toNat, 128]
def k0_off80 (i : grid0.Coords) : Fin 4 → Nat :=
  let c0_247 : Index := 0#32
  let arg1 : BitVec 32 := BitVec.ofNat 32 (i 1).val
  let c0_i32_230 : BitVec 32 := 0#32
  let v391 : BitVec 1 := Scalar.cmpi .eq arg1 c0_i32_230
  let c1_i32_231 : BitVec 32 := 1#32
  let v392 : BitVec 32 := Scalar.subi arg1 c1_i32_231
  let v393 : BitVec 32 := Scalar.select v391 arg1 v392
  let v422 : Index := Scalar.indexCast v393
  let c192_248 : Index := 192#32
  let c0_249 : Index := 0#32
  ![0, v422.toNat, 192, 0]
def k0_mult52 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_264 : BitVec 32 := 256#32
  let v452 : BitVec 32 := Scalar.muli v82 c256_i32_264
  v452
def k0_off81 (i : grid0.Coords) : Fin 4 → Nat :=
  let c0_299 : Index := 0#32
  let arg1 : BitVec 32 := BitVec.ofNat 32 (i 1).val
  let c0_i32_281 : BitVec 32 := 0#32
  let v475 : BitVec 1 := Scalar.cmpi .eq arg1 c0_i32_281
  let c1_i32_282 : BitVec 32 := 1#32
  let v476 : BitVec 32 := Scalar.subi arg1 c1_i32_282
  let v477 : BitVec 32 := Scalar.select v475 arg1 v476
  let v506 : Index := Scalar.indexCast v477
  let c256_300 : Index := 256#32
  let c0_301 : Index := 0#32
  ![0, v506.toNat, 256, 0]
def k0_mult53 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_316 : BitVec 32 := 256#32
  let v536 : BitVec 32 := Scalar.muli v82 c256_i32_316
  v536
def k0_off82 (i : grid0.Coords) : Fin 3 → Nat :=
  let c0_317 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_316 : BitVec 32 := 256#32
  let v536 : BitVec 32 := Scalar.muli v82 c256_i32_316
  let v537 : BitVec 32 := v536
  let v538 : Index := Scalar.indexCast v537
  let c256_318 : Index := 256#32
  ![0, v538.toNat, 256]
def k0_off83 (i : grid0.Coords) : Fin 4 → Nat :=
  let c0_350 : Index := 0#32
  let arg1 : BitVec 32 := BitVec.ofNat 32 (i 1).val
  let c0_i32_333 : BitVec 32 := 0#32
  let v559 : BitVec 1 := Scalar.cmpi .eq arg1 c0_i32_333
  let c1_i32_334 : BitVec 32 := 1#32
  let v560 : BitVec 32 := Scalar.subi arg1 c1_i32_334
  let v561 : BitVec 32 := Scalar.select v559 arg1 v560
  let v590 : Index := Scalar.indexCast v561
  let c320_351 : Index := 320#32
  let c0_352 : Index := 0#32
  ![0, v590.toNat, 320, 0]
def k0_mult54 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_367 : BitVec 32 := 256#32
  let v620 : BitVec 32 := Scalar.muli v82 c256_i32_367
  v620
def k0_off84 (i : grid0.Coords) : Fin 4 → Nat :=
  let c0_401 : Index := 0#32
  let arg1 : BitVec 32 := BitVec.ofNat 32 (i 1).val
  let c0_i32_384 : BitVec 32 := 0#32
  let v643 : BitVec 1 := Scalar.cmpi .eq arg1 c0_i32_384
  let c1_i32_385 : BitVec 32 := 1#32
  let v644 : BitVec 32 := Scalar.subi arg1 c1_i32_385
  let v645 : BitVec 32 := Scalar.select v643 arg1 v644
  let v674 : Index := Scalar.indexCast v645
  let c384_402 : Index := 384#32
  let c0_403 : Index := 0#32
  ![0, v674.toNat, 384, 0]
def k0_mult55 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_418 : BitVec 32 := 256#32
  let v704 : BitVec 32 := Scalar.muli v82 c256_i32_418
  v704
def k0_off85 (i : grid0.Coords) : Fin 3 → Nat :=
  let c0_419 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_418 : BitVec 32 := 256#32
  let v704 : BitVec 32 := Scalar.muli v82 c256_i32_418
  let v705 : BitVec 32 := v704
  let v706 : Index := Scalar.indexCast v705
  let c384_420 : Index := 384#32
  ![0, v706.toNat, 384]
def k0_off86 (i : grid0.Coords) : Fin 4 → Nat :=
  let c0_453 : Index := 0#32
  let arg1 : BitVec 32 := BitVec.ofNat 32 (i 1).val
  let c0_i32_435 : BitVec 32 := 0#32
  let v727 : BitVec 1 := Scalar.cmpi .eq arg1 c0_i32_435
  let c1_i32_436 : BitVec 32 := 1#32
  let v728 : BitVec 32 := Scalar.subi arg1 c1_i32_436
  let v729 : BitVec 32 := Scalar.select v727 arg1 v728
  let v758 : Index := Scalar.indexCast v729
  let c448_454 : Index := 448#32
  let c0_455 : Index := 0#32
  ![0, v758.toNat, 448, 0]
def k0_mult56 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_470 : BitVec 32 := 256#32
  let v788 : BitVec 32 := Scalar.muli v82 c256_i32_470
  v788
def k0_cond4 (i : grid0.Coords) : BitVec 1 :=
  let arg1 : BitVec 32 := BitVec.ofNat 32 (i 1).val
  let c2_i32_38 : BitVec 32 := 2#32
  let c0_i32_39 : BitVec 32 := 0#32
  let v68 : BitVec 1 := Scalar.cmpi .eq c2_i32_38 c0_i32_39
  let c1_i32_40 : BitVec 32 := 1#32
  let v69 : BitVec 32 := Scalar.select v68 c1_i32_40 c2_i32_38
  let v70 : BitVec 32 := Scalar.remsi arg1 v69
  let c0_i32_42 : BitVec 32 := 0#32
  let v72 : BitVec 1 := Scalar.cmpi .slt v70 c0_i32_42
  let c0_i32_43 : BitVec 32 := 0#32
  let v73 : BitVec 1 := Scalar.cmpi .slt v69 c0_i32_43
  let v74 : BitVec 1 := Scalar.xori v72 v73
  let c0_i32_41 : BitVec 32 := 0#32
  let v71 : BitVec 1 := Scalar.cmpi .ne v70 c0_i32_41
  let v75 : BitVec 1 := Scalar.andi v74 v71
  let v76 : BitVec 32 := Scalar.addi v70 v69
  let v77 : BitVec 32 := Scalar.select v75 v76 v70
  let c1_i32_44 : BitVec 32 := 1#32
  let v78 : BitVec 1 := Scalar.cmpi .eq v77 c1_i32_44
  let v79 : BitVec 32 := Scalar.extui v78
  let c0_i32_45 : BitVec 32 := 0#32
  let v80 : BitVec 1 := Scalar.cmpi .ne v79 c0_i32_45
  v80

def k0_off87 (i : grid0.Coords) : Fin 4 → Nat :=
  let c0_47 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v83 : Index := Scalar.indexCast v82
  let c0_48 : Index := 0#32
  let c0_49 : Index := 0#32
  ![0, v83.toNat, 0, 0]
def k0_off88 (i : grid0.Coords) : Fin 4 → Nat :=
  let c0_52 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v90 : Index := Scalar.indexCast v82
  let c64 : Index := 64#32
  let c0_53 : Index := 0#32
  ![0, v90.toNat, 64, 0]
def k0_off89 (i : grid0.Coords) : Fin 4 → Nat :=
  let c0_55 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v97 : Index := Scalar.indexCast v82
  let c128_56 : Index := 128#32
  let c0_57 : Index := 0#32
  ![0, v97.toNat, 128, 0]
def k0_off90 (i : grid0.Coords) : Fin 4 → Nat :=
  let c0_59 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v104 : Index := Scalar.indexCast v82
  let c192 : Index := 192#32
  let c0_60 : Index := 0#32
  ![0, v104.toNat, 192, 0]
def k0_off91 (i : grid0.Coords) : Fin 4 → Nat :=
  let c0_62 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v111 : Index := Scalar.indexCast v82
  let c256_63 : Index := 256#32
  let c0_64 : Index := 0#32
  ![0, v111.toNat, 256, 0]
def k0_off92 (i : grid0.Coords) : Fin 4 → Nat :=
  let c0_66 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v118 : Index := Scalar.indexCast v82
  let c320 : Index := 320#32
  let c0_67 : Index := 0#32
  ![0, v118.toNat, 320, 0]
def k0_off93 (i : grid0.Coords) : Fin 4 → Nat :=
  let c0_69 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v125 : Index := Scalar.indexCast v82
  let c384_70 : Index := 384#32
  let c0_71 : Index := 0#32
  ![0, v125.toNat, 384, 0]
def k0_off94 (i : grid0.Coords) : Fin 4 → Nat :=
  let c0_73 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let v132 : Index := Scalar.indexCast v82
  let c448 : Index := 448#32
  let c0_74 : Index := 0#32
  ![0, v132.toNat, 448, 0]
def k0_off95 (i : grid0.Coords) (c0_i32_80 : BitVec 32) : Fin 3 → Nat :=
  let c0_81 : Index := 0#32
  let arg1 : BitVec 32 := BitVec.ofNat 32 (i 1).val
  let c1_i32_78 : BitVec 32 := 1#32
  let v142 : BitVec 32 := Scalar.subi arg1 c1_i32_78
  let c0_i32_79 : BitVec 32 := 0#32
  let v143 : BitVec 32 := Scalar.maxsi v142 c0_i32_79
  let c8_i32 : BitVec 32 := 8#32
  let v144 : BitVec 32 := Scalar.muli v143 c8_i32
  let v145 : BitVec 32 := Scalar.addi v144 c0_i32_80
  let v146 : Index := Scalar.indexCast v145
  let c0_82 : Index := 0#32
  ![0, v146.toNat, 0]
def k0_off96 (i : grid0.Coords) : Fin 4 → Nat :=
  let c0_94 : Index := 0#32
  let arg1 : BitVec 32 := BitVec.ofNat 32 (i 1).val
  let c0_i32_76 : BitVec 32 := 0#32
  let v139 : BitVec 1 := Scalar.cmpi .eq arg1 c0_i32_76
  let c1_i32_77 : BitVec 32 := 1#32
  let v140 : BitVec 32 := Scalar.subi arg1 c1_i32_77
  let v141 : BitVec 32 := Scalar.select v139 arg1 v140
  let v170 : Index := Scalar.indexCast v141
  let c0_95 : Index := 0#32
  let c0_96 : Index := 0#32
  ![0, v170.toNat, 0, 0]
def k0_mult57 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32 : BitVec 32 := 256#32
  let v200 : BitVec 32 := Scalar.muli v82 c256_i32
  v200
def k0_off97 (i : grid0.Coords) : Fin 3 → Nat :=
  let c0_111 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32 : BitVec 32 := 256#32
  let v200 : BitVec 32 := Scalar.muli v82 c256_i32
  let v201 : BitVec 32 := v200
  let v202 : Index := Scalar.indexCast v201
  let c0_112 : Index := 0#32
  ![0, v202.toNat, 0]
def k0_off98 (i : grid0.Coords) : Fin 4 → Nat :=
  let c0_144 : Index := 0#32
  let arg1 : BitVec 32 := BitVec.ofNat 32 (i 1).val
  let c0_i32_126 : BitVec 32 := 0#32
  let v223 : BitVec 1 := Scalar.cmpi .eq arg1 c0_i32_126
  let c1_i32_127 : BitVec 32 := 1#32
  let v224 : BitVec 32 := Scalar.subi arg1 c1_i32_127
  let v225 : BitVec 32 := Scalar.select v223 arg1 v224
  let v254 : Index := Scalar.indexCast v225
  let c64_145 : Index := 64#32
  let c0_146 : Index := 0#32
  ![0, v254.toNat, 64, 0]
def k0_mult58 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_161 : BitVec 32 := 256#32
  let v284 : BitVec 32 := Scalar.muli v82 c256_i32_161
  v284
def k0_off99 (i : grid0.Coords) : Fin 4 → Nat :=
  let c0_196 : Index := 0#32
  let arg1 : BitVec 32 := BitVec.ofNat 32 (i 1).val
  let c0_i32_178 : BitVec 32 := 0#32
  let v307 : BitVec 1 := Scalar.cmpi .eq arg1 c0_i32_178
  let c1_i32_179 : BitVec 32 := 1#32
  let v308 : BitVec 32 := Scalar.subi arg1 c1_i32_179
  let v309 : BitVec 32 := Scalar.select v307 arg1 v308
  let v338 : Index := Scalar.indexCast v309
  let c128_197 : Index := 128#32
  let c0_198 : Index := 0#32
  ![0, v338.toNat, 128, 0]
def k0_mult59 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_213 : BitVec 32 := 256#32
  let v368 : BitVec 32 := Scalar.muli v82 c256_i32_213
  v368
def k0_off100 (i : grid0.Coords) : Fin 3 → Nat :=
  let c0_214 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_213 : BitVec 32 := 256#32
  let v368 : BitVec 32 := Scalar.muli v82 c256_i32_213
  let v369 : BitVec 32 := v368
  let v370 : Index := Scalar.indexCast v369
  let c128_215 : Index := 128#32
  ![0, v370.toNat, 128]
def k0_off101 (i : grid0.Coords) : Fin 4 → Nat :=
  let c0_247 : Index := 0#32
  let arg1 : BitVec 32 := BitVec.ofNat 32 (i 1).val
  let c0_i32_230 : BitVec 32 := 0#32
  let v391 : BitVec 1 := Scalar.cmpi .eq arg1 c0_i32_230
  let c1_i32_231 : BitVec 32 := 1#32
  let v392 : BitVec 32 := Scalar.subi arg1 c1_i32_231
  let v393 : BitVec 32 := Scalar.select v391 arg1 v392
  let v422 : Index := Scalar.indexCast v393
  let c192_248 : Index := 192#32
  let c0_249 : Index := 0#32
  ![0, v422.toNat, 192, 0]
def k0_mult60 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_264 : BitVec 32 := 256#32
  let v452 : BitVec 32 := Scalar.muli v82 c256_i32_264
  v452
def k0_off102 (i : grid0.Coords) : Fin 4 → Nat :=
  let c0_299 : Index := 0#32
  let arg1 : BitVec 32 := BitVec.ofNat 32 (i 1).val
  let c0_i32_281 : BitVec 32 := 0#32
  let v475 : BitVec 1 := Scalar.cmpi .eq arg1 c0_i32_281
  let c1_i32_282 : BitVec 32 := 1#32
  let v476 : BitVec 32 := Scalar.subi arg1 c1_i32_282
  let v477 : BitVec 32 := Scalar.select v475 arg1 v476
  let v506 : Index := Scalar.indexCast v477
  let c256_300 : Index := 256#32
  let c0_301 : Index := 0#32
  ![0, v506.toNat, 256, 0]
def k0_mult61 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_316 : BitVec 32 := 256#32
  let v536 : BitVec 32 := Scalar.muli v82 c256_i32_316
  v536
def k0_off103 (i : grid0.Coords) : Fin 3 → Nat :=
  let c0_317 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_316 : BitVec 32 := 256#32
  let v536 : BitVec 32 := Scalar.muli v82 c256_i32_316
  let v537 : BitVec 32 := v536
  let v538 : Index := Scalar.indexCast v537
  let c256_318 : Index := 256#32
  ![0, v538.toNat, 256]
def k0_off104 (i : grid0.Coords) : Fin 4 → Nat :=
  let c0_350 : Index := 0#32
  let arg1 : BitVec 32 := BitVec.ofNat 32 (i 1).val
  let c0_i32_333 : BitVec 32 := 0#32
  let v559 : BitVec 1 := Scalar.cmpi .eq arg1 c0_i32_333
  let c1_i32_334 : BitVec 32 := 1#32
  let v560 : BitVec 32 := Scalar.subi arg1 c1_i32_334
  let v561 : BitVec 32 := Scalar.select v559 arg1 v560
  let v590 : Index := Scalar.indexCast v561
  let c320_351 : Index := 320#32
  let c0_352 : Index := 0#32
  ![0, v590.toNat, 320, 0]
def k0_mult62 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_367 : BitVec 32 := 256#32
  let v620 : BitVec 32 := Scalar.muli v82 c256_i32_367
  v620
def k0_off105 (i : grid0.Coords) : Fin 4 → Nat :=
  let c0_401 : Index := 0#32
  let arg1 : BitVec 32 := BitVec.ofNat 32 (i 1).val
  let c0_i32_384 : BitVec 32 := 0#32
  let v643 : BitVec 1 := Scalar.cmpi .eq arg1 c0_i32_384
  let c1_i32_385 : BitVec 32 := 1#32
  let v644 : BitVec 32 := Scalar.subi arg1 c1_i32_385
  let v645 : BitVec 32 := Scalar.select v643 arg1 v644
  let v674 : Index := Scalar.indexCast v645
  let c384_402 : Index := 384#32
  let c0_403 : Index := 0#32
  ![0, v674.toNat, 384, 0]
def k0_mult63 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_418 : BitVec 32 := 256#32
  let v704 : BitVec 32 := Scalar.muli v82 c256_i32_418
  v704
def k0_off106 (i : grid0.Coords) : Fin 3 → Nat :=
  let c0_419 : Index := 0#32
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_418 : BitVec 32 := 256#32
  let v704 : BitVec 32 := Scalar.muli v82 c256_i32_418
  let v705 : BitVec 32 := v704
  let v706 : Index := Scalar.indexCast v705
  let c384_420 : Index := 384#32
  ![0, v706.toNat, 384]
def k0_off107 (i : grid0.Coords) : Fin 4 → Nat :=
  let c0_453 : Index := 0#32
  let arg1 : BitVec 32 := BitVec.ofNat 32 (i 1).val
  let c0_i32_435 : BitVec 32 := 0#32
  let v727 : BitVec 1 := Scalar.cmpi .eq arg1 c0_i32_435
  let c1_i32_436 : BitVec 32 := 1#32
  let v728 : BitVec 32 := Scalar.subi arg1 c1_i32_436
  let v729 : BitVec 32 := Scalar.select v727 arg1 v728
  let v758 : Index := Scalar.indexCast v729
  let c448_454 : Index := 448#32
  let c0_455 : Index := 0#32
  ![0, v758.toNat, 448, 0]
def k0_mult64 (i : grid0.Coords) : BitVec 32 :=
  let arg1 : BitVec 32 := BitVec.ofNat 32 (i 1).val
  let c1_i32_46 : BitVec 32 := 1#32
  let v81 : BitVec 32 := Scalar.addi arg1 c1_i32_46
  let c7_i32 : BitVec 32 := 7#32
  let v82 : BitVec 32 := Scalar.minsi v81 c7_i32
  let c256_i32_470 : BitVec 32 := 256#32
  let v788 : BitVec 32 := Scalar.muli v82 c256_i32_470
  v788
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== Ffn.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S1x1024 : Shape := ⟨2, ![1, 1024]⟩
abbrev S1x1024x1024 : Shape := ⟨3, ![1, 1024, 1024]⟩
abbrev S8x2816 : Shape := ⟨2, ![8, 2816]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S248x2816 : Shape := ⟨2, ![248, 2816]⟩
abbrev S1x2816 : Shape := ⟨2, ![1, 2816]⟩

abbrev nBuf : Space → Nat
  | .hbm => 11
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S2816x1024, .bf16⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S8x2816, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S32x2050x2816 : Shape := ⟨3, ![32, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x5632, .f32⟩
  | .hbm, ⟨23, _⟩ => ⟨S32x2048x2816, .f32⟩
  | .hbm, ⟨24, _⟩ => ⟨S_, .i32⟩
  | .hbm, ⟨25, _⟩ => ⟨S_, .f32⟩
  | .hbm, ⟨26, _⟩ => ⟨S32x2050x2816, .f32⟩
  | .hbm, ⟨27, _⟩ => ⟨S32x2048x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S1x2816, .f32⟩
  | .hbm, ⟨42, _⟩ => ⟨S2816, .f32⟩
  | .hbm, ⟨43, _⟩ => ⟨S1x1x2816, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S_, .f32⟩
  | .hbm, ⟨50, _⟩ => ⟨S32x2048x2816, .f32⟩
  | .hbm, ⟨51, _⟩ => ⟨S32x2048x2816, .f32⟩
  | .hbm, ⟨52, _⟩ => ⟨S_, .f32⟩
  | .hbm, ⟨53, _⟩ => ⟨S32x2048x2816, .f32⟩
  | .hbm, ⟨54, _⟩ => ⟨S32x2048x2816, .f32⟩
  | .hbm, ⟨55, _⟩ => ⟨S32x2048x2816, .f32⟩
  | .hbm, ⟨56, _⟩ => ⟨S32x2048x2816, .f32⟩
  | .hbm, ⟨57, _⟩ => ⟨S32x2048x2816, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S_, .f32⟩
  | .hbm, ⟨62, _⟩ => ⟨S32x2048, .f32⟩
  | .hbm, ⟨63, _⟩ => ⟨S32x2048x1, .f32⟩
  | .hbm, ⟨64, _⟩ => ⟨S_, .f32⟩
  | .hbm, ⟨65, _⟩ => ⟨S32x2048x1, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S32x2048x1, .f32⟩
  | .hbm, ⟨71, _⟩ => ⟨S32x2048x1024, .f32⟩
  | .hbm, ⟨72, _⟩ => ⟨S32x2048x1024, .f32⟩
  | .hbm, ⟨73, _⟩ => ⟨S1x1x1024, .f32⟩
  | .hbm, ⟨74, _⟩ => ⟨S32x2048x1024, .f32⟩
  | .hbm, ⟨75, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Cross.lean ====
abbrev S32x2048x1024 : Shape := ⟨3, ![32, 2048, 1024]⟩
abbrev S32x256x1024 : Shape := ⟨3, ![32, 256, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S1x2048x1024 : Shape := ⟨3, ![1, 2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x2048, .bf16⟩
  | .hbm, ⟨11, _⟩ => ⟨S1024x1024, .bf16⟩
  | .hbm, ⟨12, _⟩ => ⟨S32x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x2048, .bf16⟩
  | .local _ .vmem, ⟨8, _⟩ => ⟨S1024x1024, .bf16⟩
  | .local _ .vmem, ⟨9, _⟩ => ⟨S1x2048x1024, .f32⟩
  | .local _ .vmem, ⟨10, _⟩ => ⟨S1x2048x1024, .f32⟩
  | .local _ .vmem, ⟨11, _⟩ => ⟨S256x1024, .bf16⟩
  | .local _ .vmem, ⟨12, _⟩ => ⟨S256x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossIdeal.lean ====
variable {F : FTy → Type} [FloatOps F] [Named F]
def κ : String → Option EReal := fun
  | "log2e_over_16" => some (((Real.log 2)⁻¹ * (1 / 16) : ℝ) : EReal)
  | _ => none
-- ==== CrossRefIdeal.lean ====
abbrev S32x2048x1024 : Shape := ⟨3, ![32, 2048, 1024]⟩
abbrev S32x256x1024 : Shape := ⟨3, ![32, 256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x256 : Shape := ⟨2, ![32, 256]⟩
abbrev S32x256x1 : Shape := ⟨3, ![32, 256, 1]⟩
abbrev S32x2048x4x256 : Shape := ⟨4, ![32, 2048, 4, 256]⟩
abbrev S32x256x2048 : Shape := ⟨3, ![32, 256, 2048]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S32x2048x1024, .f32⟩
  | .hbm, ⟨40, _⟩ => ⟨S32x2048x4x256, .f32⟩
  | .hbm, ⟨41, _⟩ => ⟨S32x256x2048, .f32⟩
  | .hbm, ⟨42, _⟩ => ⟨S32x256x1024, .f32⟩
  | .hbm, ⟨43, _⟩ => ⟨S32x256x4x256, .f32⟩
  | .hbm, ⟨44, _⟩ => ⟨S32x256x1024, .f32⟩
  | .hbm, ⟨45, _⟩ => ⟨S32x256x4x256, .f32⟩
  | .hbm, ⟨46, _⟩ => ⟨S32x4x2048x256, .f32⟩
  | .hbm, ⟨47, _⟩ => ⟨S_, .f32⟩
  | .hbm, ⟨48, _⟩ => ⟨S32x4x2048x256, .f32⟩
  | .hbm, ⟨49, _⟩ => ⟨S32x4x2048x256, .f32⟩
  | .hbm, ⟨50, _⟩ => ⟨S_, .f32⟩
  | .hbm, ⟨51, _⟩ => ⟨S32x4x2048, .f32⟩
  | .hbm, ⟨52, _⟩ => ⟨S_, .f32⟩
  | .hbm, ⟨53, _⟩ => ⟨S32x4x2048, .f32⟩
  | .hbm, ⟨54, _⟩ => ⟨S32x4x2048, .f32⟩
  | .hbm, ⟨55, _⟩ => ⟨S32x4x2048x1, .f32⟩
  | .hbm, ⟨56, _⟩ => ⟨S32x4x2048x256, .f32⟩
  | .hbm, ⟨57, _⟩ => ⟨S32x4x2048x256, .f32⟩
  | .hbm, ⟨58, _⟩ => ⟨S32x4x2048x256, .f32⟩
  | .hbm, ⟨59, _⟩ => ⟨S_, .f32⟩
  | .hbm, ⟨60, _⟩ => ⟨S32x4x2048, .f32⟩
  | .hbm, ⟨61, _⟩ => ⟨S32x4x2048x1, .f32⟩
  | .hbm, ⟨62, _⟩ => ⟨S32x4x2048x256, .f32⟩
  | .hbm, ⟨63, _⟩ => ⟨S32x4x2048x256, .f32⟩
  | .hbm, ⟨64, _⟩ => ⟨S32x4x256x2048, .f32⟩
  | .hbm, ⟨65, _⟩ => ⟨S32x2048x4x256, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Mix.lean ====
abbrev S32x2048x1024 : Shape := ⟨3, ![32, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S1024x512 : Shape := ⟨2, ![1024, 512]⟩
abbrev S1024x1024 : Shape := ⟨2, ![1024, 1024]⟩
abbrev S1x1024 : Shape := ⟨2, ![1, 1024]⟩
abbrev S1x512 : Shape := ⟨2, ![1, 512]⟩
abbrev S32x8x512x256 : Shape := ⟨4, ![32, 8, 512, 256]⟩
abbrev S32x2048x512 : Shape := ⟨3, ![32, 2048, 512]⟩
abbrev S32x64x2048 : Shape := ⟨3, ![32, 64, 2048]⟩
abbrev S1x2048x1024 : Shape := ⟨3, ![1, 2048, 1024]⟩
abbrev S1x8x512x256 : Shape := ⟨4, ![1, 8, 512, 256]⟩
abbrev S1x2048x512 : Shape := ⟨3, ![1, 2048, 512]⟩
abbrev S1x64x2048 : Shape := ⟨3, ![1, 64, 2048]⟩
abbrev S64x512 : Shape := ⟨2, ![64, 512]⟩
abbrev S8x512 : Shape := ⟨2, ![8, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S248x512 : Shape := ⟨2, ![248, 512]⟩
abbrev S1x256x512 : Shape := ⟨3, ![1, 256, 512]⟩
abbrev S512x1024 : Shape := ⟨2, ![512, 1024]⟩
abbrev S512x256 : Shape := ⟨2, ![512, 256]⟩
abbrev S1x1x512x256 : Shape := ⟨4, ![1, 1, 512, 256]⟩
abbrev S128x512 : Shape := ⟨2, ![128, 512]⟩
abbrev S128x256 : Shape := ⟨2, ![128, 256]⟩
abbrev S64x256 : Shape := ⟨2, ![64, 256]⟩
abbrev S8x256 : Shape := ⟨2, ![8, 256]⟩
abbrev S1x64x256 : Shape := ⟨3, ![1, 64, 256]⟩

abbrev nBuf : Space → Nat
  | .hbm => 17
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S512, .f32⟩
  | .hbm, ⟨5, _⟩ => ⟨S1024x3072, .bf16⟩
  | .hbm, ⟨6, _⟩ => ⟨S1024x512, .bf16⟩
  | .hbm, ⟨7, _⟩ => ⟨S1024x512, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x512, .f32⟩
  | .hbm, ⟨12, _⟩ => ⟨S32x8x512x256, .bf16⟩
  | .hbm, ⟨13, _⟩ => ⟨S32x2048x512, .bf16⟩
  | .hbm, ⟨14, _⟩ => ⟨S32x8x512x256, .bf16⟩
  | .hbm, ⟨15, _⟩ => ⟨S32x2048x512, .bf16⟩
  | .hbm, ⟨16, _⟩ => ⟨S32x64x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S3x512, .f32⟩
  | .local _ .vmem, ⟨6, _⟩ => ⟨S1x512, .f32⟩
  | .local _ .vmem, ⟨7, _⟩ => ⟨S1x8x512x256, .bf16⟩
  | .local _ .vmem, ⟨8, _⟩ => ⟨S1x8x512x256, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x8x512x256, .bf16⟩
  | .local _ .vmem, ⟨12, _⟩ => ⟨S1x8x512x256, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x64x2048, .f32⟩
  | .local _ .vmem, ⟨16, _⟩ => ⟨S1x64x2048, .f32⟩
  | .local _ .vmem, ⟨17, _⟩ => ⟨S64x512, .f32⟩
  | .local _ .vmem, ⟨18, _⟩ => ⟨S8x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c8_i32 : BitVec 32 := 8#32
  let v30 : BitVec 32 := Scalar.muli arg1 c8_i32
  let c0_i32_7 : BitVec 32 := 0#32
  let v31 : BitVec 32 := Scalar.addi v30 c0_i32_7
  let c8_i32_228 : BitVec 32 := 8#32
  let v539 : BitVec 32 := Scalar.muli v31 c8_i32_228
  v539
def k0_off1 (i : grid0.Coords) (c0_i32_7 : BitVec 32) : Fin 2 → Nat :=
  let arg1 : BitVec 32 := BitVec.ofNat 32 (i 1).val
  let c8_i32 : BitVec 32 := 8#32
  let v30 : BitVec 32 := Scalar.muli arg1 c8_i32
  let v31 : BitVec 32 := Scalar.addi v30 c0_i32_7
  let c8_i32_228 : BitVec 32 := 8#32
  let v539 : BitVec 32 := Scalar.muli v31 c8_i32_228
  let v540 : BitVec 32 := v539
  let v546 : Index := Scalar.indexCast v540
  let c0_230 : Index := 0#32
  ![v546.toNat, 0]
def k0_mult2 (i : grid0.Coords) : BitVec 32 :=
  let arg1 : BitVec 32 := BitVec.ofNat 32 (i 1).val
  let c8_i32_231 : BitVec 32 := 8#32
  let v550 : BitVec 32 := Scalar.muli arg1 c8_i32_231
  let c1_i32_232 : BitVec 32 := 1#32
  let v551 : BitVec 32 := Scalar.addi v550 c1_i32_232
  let c8_i32_462 : BitVec 32 := 8#32
  let v1059 : BitVec 32 := Scalar.muli v551 c8_i32_462
  v1059
def k0_mult3 (i : grid0.Coords) : BitVec 32 :=
  let arg1 : BitVec 32 := BitVec.ofNat 32 (i 1).val
  let c8_i32_465 : BitVec 32 := 8#32
  let v1070 : BitVec 32 := Scalar.muli arg1 c8_i32_465
  let c2_i32_466 : BitVec 32 := 2#32
  let v1071 : BitVec 32 := Scalar.addi v1070 c2_i32_466
  let c8_i32_697 : BitVec 32 := 8#32
  let v1579 : BitVec 32 := Scalar.muli v1071 c8_i32_697
  v1579
def k0_mult4 (i : grid0.Coords) : BitVec 32 :=
  let arg1 : BitVec 32 := BitVec.ofNat 32 (i 1).val
  let c8_i32_700 : BitVec 32 := 8#32
  let v1590 : BitVec 32 := Scalar.muli arg1 c8_i32_700
  let c3_i32_701 : BitVec 32 := 3#32
  let v1591 : BitVec 32 := Scalar.addi v1590 c3_i32_701
  let c8_i32_931 : BitVec 32 := 8#32
  let v2099 : BitVec 32 := Scalar.muli v1591 c8_i32_931
  v2099
def k0_mult5 (i : grid0.Coords) : BitVec 32 :=
  let arg1 : BitVec 32 := BitVec.ofNat 32 (i 1).val
  let c8_i32_934 : BitVec 32 := 8#32
  let v2110 : BitVec 32 := Scalar.muli arg1 c8_i32_934
  let c4_i32_935 : BitVec 32 := 4#32
  let v2111 : BitVec 32 := Scalar.addi v2110 c4_i32_935
  let c8_i32_1165 : BitVec 32 := 8#32
  let v2619 : BitVec 32 := Scalar.muli v2111 c8_i32_1165
  v2619
def k0_mult6 (i : grid0.Coords) : BitVec 32 :=
  let arg1 : BitVec 32 := BitVec.ofNat 32 (i 1).val
  let c8_i32_1168 : BitVec 32 := 8#32
  let v2630 : BitVec 32 := Scalar.muli arg1 c8_i32_1168
  let c5_i32_1169 : BitVec 32 := 5#32
  let v2631 : BitVec 32 := Scalar.addi v2630 c5_i32_1169
  let c8_i32_1399 : BitVec 32 := 8#32
  let v3139 : BitVec 32 := Scalar.muli v2631 c8_i32_1399
  v3139
def k0_mult7 (i : grid0.Coords) : BitVec 32 :=
  let arg1 : BitVec 32 := BitVec.ofNat 32 (i 1).val
  let c8_i32_1402 : BitVec 32 := 8#32
  let v3150 : BitVec 32 := Scalar.muli arg1 c8_i32_1402
  let c6_i32_1403 : BitVec 32 := 6#32
  let v3151 : BitVec 32 := Scalar.addi v3150 c6_i32_1403
  let c8_i32_1634 : BitVec 32 := 8#32
  let v3659 : BitVec 32 := Scalar.muli v3151 c8_i32_1634
  v3659
def k0_mult8 (i : grid0.Coords) : BitVec 32 :=
  let arg1 : BitVec 32 := BitVec.ofNat 32 (i 1).val
  let c8_i32_1637 : BitVec 32 := 8#32
  let v3670 : BitVec 32 := Scalar.muli arg1 c8_i32_1637
  let c7_i32_1638 : BitVec 32 := 7#32
  let v3671 : BitVec 32 := Scalar.addi v3670 c7_i32_1638
  let c8_i32_1868 : BitVec 32 := 8#32
  let v4179 : BitVec 32 := Scalar.muli v3671 c8_i32_1868
  v4179
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S32x2048x1024 : Shape := ⟨3, ![32, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x512 : Shape := ⟨3, ![32, 2048, 512]⟩
abbrev S32x2050x512 : Shape := ⟨3, ![32, 2050, 512]⟩
abbrev S1x512 : Shape := ⟨2, ![1, 512]⟩
abbrev S1x1x512 : Shape := ⟨3, ![1, 1, 512]⟩
abbrev S32x8x256x512 : Shape := ⟨4, ![32, 8, 256, 512]⟩
abbrev S32x8x512x256 : Shape := ⟨4, ![32, 8, 512, 256]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S512, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x3072, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S_, .i32⟩
  | .hbm, ⟨30, _⟩ => ⟨S_, .f32⟩
  | .hbm, ⟨31, _⟩ => ⟨S32x2050x512, .f32⟩
  | .hbm, ⟨32, _⟩ => ⟨S32x2048x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S1x512, .f32⟩
  | .hbm, ⟨40, _⟩ => ⟨S512, .f32⟩
  | .hbm, ⟨41, _⟩ => ⟨S1x1x512, .f32⟩
  | .hbm, ⟨42, _⟩ => ⟨S32x2048x512, .f32⟩
  | .hbm, ⟨43, _⟩ => ⟨S32x2048x512, .f32⟩
  | .hbm, ⟨44, _⟩ => ⟨S32x2048x512, .f32⟩
  | .hbm, ⟨45, _⟩ => ⟨S32x2048x512, .f32⟩
  | .hbm, ⟨46, _⟩ => ⟨S1x512, .f32⟩
  | .hbm, ⟨47, _⟩ => ⟨S512, .f32⟩
  | .hbm, ⟨48, _⟩ => ⟨S1x1x512, .f32⟩
  | .hbm, ⟨49, _⟩ => ⟨S32x2048x512, .f32⟩
  | .hbm, ⟨50, _⟩ => ⟨S32x2048x512, .f32⟩
  | .hbm, ⟨51, _⟩ => ⟨S32x2048x512, .f32⟩
  | .hbm, ⟨52, _⟩ => ⟨S32x2048x512, .f32⟩
  | .hbm, ⟨53, _⟩ => ⟨S32x2048x512, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x512, .f32⟩
  | .hbm, ⟨65, _⟩ => ⟨S32x2048x512, .f32⟩
  | .hbm, ⟨66, _⟩ => ⟨S1x1x512, .f32⟩
  | .hbm, ⟨67, _⟩ => ⟨S32x2048x512, .f32⟩
  | .hbm, ⟨68, _⟩ => ⟨S32x2048x512, .f32⟩
  | .hbm, ⟨69, _⟩ => ⟨S_, .f32⟩
  | .hbm, ⟨70, _⟩ => ⟨S32x2048x512, .f32⟩
  | .hbm, ⟨71, _⟩ => ⟨S32x2048x512, .f32⟩
  | .hbm, ⟨72, _⟩ => ⟨S32x8x256x512, .f32⟩
  | .hbm, ⟨73, _⟩ => ⟨S32x8x512x256, .f32⟩
  | .hbm, ⟨74, _⟩ => ⟨S32x8x512x256, .bf16⟩
  | .hbm, ⟨75, _⟩ => ⟨S32x2048x512, .bf16⟩
  | .hbm, ⟨76, _⟩ => ⟨S32x8x256x512, .f32⟩
  | .hbm, ⟨77, _⟩ => ⟨S32x8x512x256, .f32⟩
  | .hbm, ⟨78, _⟩ => ⟨S32x8x512x256, .bf16⟩
  | .hbm, ⟨79, _⟩ => ⟨S32x2048x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Proof.AttnIdealTrip.lean ====
module

public import proofs.«01_k».proof.Proof.Gen.AttnIdeal.Frame
public import proofs.«01_k».proof.Proof.Gen.AttnIdeal.Loops
public import Idealize.ShloMosaic.Lib.Pipeline.FrameBody
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one trip of the pair loop holds: the four buffers it only reads at their contents, the seven it writes at any. -/
abbrev Trip (c : Dev nD) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (garg3 : Buf (Elt F) (arg3.view.loc (c : Thread nD τ))) (garg4 : Buf (Elt F) (arg4.view.loc (c : Thread nD τ))) (garg5 : Buf (Elt F) (arg5.view.loc (c : Thread nD τ))) (garg11 : Buf (Elt F) (arg11.view.loc (c : Thread nD τ))) : sProp 𝕄 :=
  iprop((arg3.view.loc (c : Thread nD τ) ↦[arg3.view.set]{fullShare} garg3) ∗ (arg4.view.loc (c : Thread nD τ) ↦[arg4.view.set]{fullShare} garg4) ∗ (arg5.view.loc (c : Thread nD τ) ↦[arg5.view.set]{fullShare} garg5) ∗ (arg11.view.loc (c : Thread nD τ) ↦[arg11.view.set]{fullShare} garg11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)))

set_option maxHeartbeats 2000000 in
/-- One trip of the pair loop returns what it holds. -/
theorem trip (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (arg1 : BitVec 32) (v1 : FVec F S16x256 .bf16) (v20 : BitVec 32) (v31 : BitVec 1) (v32 : BitVec 32) (c0_i32_16 : BitVec 32) (garg3 : Buf (Elt F) (arg3.view.loc (c : Thread nD τ))) (garg4 : Buf (Elt F) (arg4.view.loc (c : Thread nD τ))) (garg5 : Buf (Elt F) (arg5.view.loc (c : Thread nD τ))) (garg11 : Buf (Elt F) (arg11.view.loc (c : Thread nD τ))) (k : Fin (k0_t1_loop i).trips) :
    Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11 ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 k ()) (fun _ => Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11) := by
  unfold k0_t1_body
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  iintro ⟨H3, H4, H5, H11, ⟨%f12, H12⟩, ⟨%f13, H13⟩, ⟨%f14, H14⟩, ⟨%f15, H15⟩, ⟨%f16, H16⟩, ⟨%f17, H17⟩, ⟨%f18, H18⟩⟩
  sl_exec
  sl_step
  sl_close

set_option maxHeartbeats 2000000 in
/-- One trip of the loop over what is left of the pairs returns what it holds. -/
theorem trip_rest (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (arg1 : BitVec 32) (v1 : FVec F S16x256 .bf16) (v20 : BitVec 32) (v31 : BitVec 1) (v32 : BitVec 32) (c0_i32_16 : BitVec 32) (v41 : BitVec 32) (garg3 : Buf (Elt F) (arg3.view.loc (c : Thread nD τ))) (garg4 : Buf (Elt F) (arg4.view.loc (c : Thread nD τ))) (garg5 : Buf (Elt F) (arg5.view.loc (c : Thread nD τ))) (garg11 : Buf (Elt F) (arg11.view.loc (c : Thread nD τ))) (k : Fin (k0_t2_loop i).trips) :
    Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11 ⊢ wp Idealize.ShloMosaic.frame (wpE (defs₀ (F := F)) Variants.none (c : Thread nD τ) none) Set.univ
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 v41 k ()) (fun _ => Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11) := by
  unfold k0_t2_body
  simp only [k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
  iintro ⟨H3, H4, H5, H11, ⟨%f12, H12⟩, ⟨%f13, H13⟩, ⟨%f14, H14⟩, ⟨%f15, H15⟩, ⟨%f16, H16⟩, ⟨%f17, H17⟩, ⟨%f18, H18⟩⟩
  sl_exec
  sl_step
  sl_close

set_option warn.classDefReducibility false in
/-- The loop's invariant: what a trip holds. -/
@[sl_loop] def pairInv (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (arg1 : BitVec 32) (v1 : FVec F S16x256 .bf16) (v20 : BitVec 32) (v31 : BitVec 1) (v32 : BitVec 32) (c0_i32_16 : BitVec 32) (garg3 : Buf (Elt F) (arg3.view.loc (c : Thread nD τ))) (garg4 : Buf (Elt F) (arg4.view.loc (c : Thread nD τ))) (garg5 : Buf (Elt F) (arg5.view.loc (c : Thread nD τ))) (garg11 : Buf (Elt F) (arg11.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 where
  inv _ _ := Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11
  step k _ := trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 garg3 garg4 garg5 garg11 k

set_option warn.classDefReducibility false in
/-- The loop's invariant: what a trip holds. -/
@[sl_loop] def restInv (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (arg1 : BitVec 32) (v1 : FVec F S16x256 .bf16) (v20 : BitVec 32) (v31 : BitVec 1) (v32 : BitVec 32) (c0_i32_16 : BitVec 32) (v41 : BitVec 32) (garg3 : Buf (Elt F) (arg3.view.loc (c : Thread nD τ))) (garg4 : Buf (Elt F) (arg4.view.loc (c : Thread nD τ))) (garg5 : Buf (Elt F) (arg5.view.loc (c : Thread nD τ))) (garg11 : Buf (Elt F) (arg11.view.loc (c : Thread nD τ))) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 v41 where
  inv _ _ := Trip c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 garg3 garg4 garg5 garg11
  step k _ := trip_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1 v20 v31 v32 c0_i32_16 v41 garg3 garg4 garg5 garg11 k

end Cert.Proof.AttnIdeal

end
-- ==== Proof.AttnIdealFirst.lean ====
module

public import proofs.«01_k».proof.Proof.AttnIdealTrip
public import Idealize.ShloMosaic.Lib.Pipeline.FrameBody
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at a first query block: on whole buffers it runs to the end with its inputs as they were. -/
theorem run_first (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (hc1 : k0_cond1 i = 1#1) (hc2 : ¬ k0_cond2 i = 1#1) (hc3 : k0_cond3 i = 1#1) (hc4 : ¬ k0_cond4 i = 1#1)
    (x0 : Vec F S1x8x512x256 .bf16) (x1 : Vec F S1x2048x512 .bf16) (x2 : Vec F S1x8x512x256 .bf16) (x3 : Vec F S1x64x256 .f32) (x4 : Vec F S1x256x512 .bf16) (x5 : Vec F S1x256x1024 .f32) (x6 : Vec F S512x256 .f32) (x7 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp Idealize.ShloMosaic.frame (wpE (defs₀ (F := F)) Variants.none c none) Set.univ (cc0_mix_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_attn_eq_skeleton]; unfold cc0_mix_attn_skel
  simp only [k0_part1_eq_skeleton, k0_part2_eq_skeleton, k0_part3_eq_skeleton, k0_part4_eq_skeleton, k0_part5_eq_skeleton, k0_part6_eq_skeleton, k0_part7_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.Proof.AttnIdeal

end
-- ==== Proof.AttnIdealOdd.lean ====
module

public import proofs.«01_k».proof.Proof.AttnIdealFirst
public import Idealize.ShloMosaic.Lib.Pipeline.FrameBody
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at an odd query block. -/
theorem run_odd (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (hc1 : ¬ k0_cond1 i = 1#1) (hc2 : k0_cond2 i = 1#1) (hc3 : ¬ k0_cond3 i = 1#1) (hc4 : k0_cond4 i = 1#1)
    (x0 : Vec F S1x8x512x256 .bf16) (x1 : Vec F S1x2048x512 .bf16) (x2 : Vec F S1x8x512x256 .bf16) (x3 : Vec F S1x64x256 .f32) (x4 : Vec F S1x256x512 .bf16) (x5 : Vec F S1x256x1024 .f32) (x6 : Vec F S512x256 .f32) (x7 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp Idealize.ShloMosaic.frame (wpE (defs₀ (F := F)) Variants.none c none) Set.univ (cc0_mix_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_attn_eq_skeleton]; unfold cc0_mix_attn_skel
  simp only [k0_part1_eq_skeleton, k0_part2_eq_skeleton, k0_part3_eq_skeleton, k0_part4_eq_skeleton, k0_part5_eq_skeleton, k0_part6_eq_skeleton, k0_part7_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.Proof.AttnIdeal

end
-- ==== Proof.AttnIdealEven.lean ====
module

public import proofs.«01_k».proof.Proof.AttnIdealOdd
public import Idealize.ShloMosaic.Lib.Pipeline.FrameBody
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at an even query block after the first. -/
theorem run_even (c : Dev nD) (i : grid0.Coords) (arg2 : Memref sig .tc .vmem S1x8x512x256 .bf16) (harg2 : arg2.IsWhole) (arg3 : Memref sig .tc .vmem S1x2048x512 .bf16) (harg3 : arg3.IsWhole) (arg4 : Memref sig .tc .vmem S1x8x512x256 .bf16) (harg4 : arg4.IsWhole) (arg5 : Memref sig .tc .vmem S1x64x256 .f32) (harg5 : arg5.IsWhole) (arg6 : Memref sig .tc .vmem S1x256x512 .bf16) (harg6 : arg6.IsWhole) (arg7 : Memref sig .tc .vmem S1x256x1024 .f32) (harg7 : arg7.IsWhole) (arg8 : Memref sig .tc .vmem S512x256 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S1024x256 .bf16) (harg11 : arg11.IsWhole) (arg12 : Memref sig .tc .vmem S8x256x256 .f32) (harg12 : arg12.IsWhole) (arg13 : Memref sig .tc .vmem S8x8x256 .f32) (harg13 : arg13.IsWhole) (arg14 : Memref sig .tc .vmem S8x256x256 .f32) (harg14 : arg14.IsWhole) (arg15 : Memref sig .tc .vmem S8x8x256 .f32) (harg15 : arg15.IsWhole) (arg16 : Memref sig .tc .vmem S8x8x256 .f32) (harg16 : arg16.IsWhole) (arg17 : Memref sig .tc .vmem S8x8x256 .f32) (harg17 : arg17.IsWhole) (arg18 : Memref sig .tc .vmem S512x256 .f32) (harg18 : arg18.IsWhole) (hc1 : ¬ k0_cond1 i = 1#1) (hc2 : ¬ k0_cond2 i = 1#1) (hc3 : k0_cond3 i = 1#1) (hc4 : ¬ k0_cond4 i = 1#1)
    (x0 : Vec F S1x8x512x256 .bf16) (x1 : Vec F S1x2048x512 .bf16) (x2 : Vec F S1x8x512x256 .bf16) (x3 : Vec F S1x64x256 .f32) (x4 : Vec F S1x256x512 .bf16) (x5 : Vec F S1x256x1024 .f32) (x6 : Vec F S512x256 .f32) (x7 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp Idealize.ShloMosaic.frame (wpE (defs₀ (F := F)) Variants.none c none) Set.univ (cc0_mix_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_mix_attn_eq_skeleton]; unfold cc0_mix_attn_skel
  simp only [k0_part1_eq_skeleton, k0_part2_eq_skeleton, k0_part3_eq_skeleton, k0_part4_eq_skeleton, k0_part5_eq_skeleton, k0_part6_eq_skeleton, k0_part7_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.Proof.AttnIdeal

end
-- ==== Proof.AttnIdealFrame.lean ====
module

public import proofs.«01_k».proof.Proof.AttnIdealEven
public import Idealize.ShloMosaic.Lib.Claim
public import Idealize.ShloMosaic.Lib.Pipeline.FrameBody
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each point is at a first query block, at an odd one, or at a later even one. -/
theorem cases_of : ∀ t : Fin cfg0.N,
    (k0_cond1 (grid0.coords t) = 1#1 ∧ ¬ k0_cond2 (grid0.coords t) = 1#1 ∧ k0_cond3 (grid0.coords t) = 1#1 ∧ ¬ k0_cond4 (grid0.coords t) = 1#1)
      ∨ (¬ k0_cond1 (grid0.coords t) = 1#1 ∧ k0_cond2 (grid0.coords t) = 1#1 ∧ ¬ k0_cond3 (grid0.coords t) = 1#1 ∧ k0_cond4 (grid0.coords t) = 1#1)
      ∨ (¬ k0_cond1 (grid0.coords t) = 1#1 ∧ ¬ k0_cond2 (grid0.coords t) = 1#1 ∧ k0_cond3 (grid0.coords t) = 1#1 ∧ ¬ k0_cond4 (grid0.coords t) = 1#1) :=
  (by decide +kernel : ∀ t : Fin grid0.N,
    (k0_cond1 (grid0.coords t) = 1#1 ∧ ¬ k0_cond2 (grid0.coords t) = 1#1 ∧ k0_cond3 (grid0.coords t) = 1#1 ∧ ¬ k0_cond4 (grid0.coords t) = 1#1)
      ∨ (¬ k0_cond1 (grid0.coords t) = 1#1 ∧ k0_cond2 (grid0.coords t) = 1#1 ∧ ¬ k0_cond3 (grid0.coords t) = 1#1 ∧ k0_cond4 (grid0.coords t) = 1#1)
      ∨ (¬ k0_cond1 (grid0.coords t) = 1#1 ∧ ¬ k0_cond2 (grid0.coords t) = 1#1 ∧ k0_cond3 (grid0.coords t) = 1#1 ∧ ¬ k0_cond4 (grid0.coords t) = 1#1))

/-- The output window is forgotten. -/
def forgets : Fin 9 → Bool := fun w => w.val == 8

/-- The pipeline's data: the arrays as the region finds them, every input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
abbrev ms_0 (t : Fin cfg0.N) : Memref sig .tc .vmem S1x8x512x256 .bf16 := win0_0.stage (cfg0.slots t 0)
abbrev ms_1 (t : Fin cfg0.N) : Memref sig .tc .vmem S1x2048x512 .bf16 := win0_1.stage (cfg0.slots t 1)
abbrev ms_2 (t : Fin cfg0.N) : Memref sig .tc .vmem S1x8x512x256 .bf16 := win0_2.stage (cfg0.slots t 2)
abbrev ms_3 (t : Fin cfg0.N) : Memref sig .tc .vmem S1x64x256 .f32 := win0_3.stage (cfg0.slots t 3)
abbrev ms_4 (t : Fin cfg0.N) : Memref sig .tc .vmem S1x256x512 .bf16 := win0_4.stage (cfg0.slots t 4)
abbrev ms_5 (t : Fin cfg0.N) : Memref sig .tc .vmem S1x256x1024 .f32 := win0_5.stage (cfg0.slots t 5)
abbrev ms_6 (t : Fin cfg0.N) : Memref sig .tc .vmem S512x256 .f32 := win0_6.stage (cfg0.slots t 6)
abbrev ms_7 (t : Fin cfg0.N) : Memref sig .tc .vmem S1024x1024 .bf16 := win0_7.stage (cfg0.slots t 7)
abbrev ms_8 (t : Fin cfg0.N) : Memref sig .tc .vmem S1x256x1024 .f32 := win0_8.stage (cfg0.slots t 8)
abbrev sc_0 : Memref sig .tc .vmem S1024x256 .bf16 := Memref.whole cc0_scratch0
abbrev sc_1 : Memref sig .tc .vmem S8x256x256 .f32 := Memref.whole cc0_scratch1
abbrev sc_2 : Memref sig .tc .vmem S8x8x256 .f32 := Memref.whole cc0_scratch2
abbrev sc_3 : Memref sig .tc .vmem S8x256x256 .f32 := Memref.whole cc0_scratch3
abbrev sc_4 : Memref sig .tc .vmem S8x8x256 .f32 := Memref.whole cc0_scratch4
abbrev sc_5 : Memref sig .tc .vmem S8x8x256 .f32 := Memref.whole cc0_scratch5
abbrev sc_6 : Memref sig .tc .vmem S8x8x256 .f32 := Memref.whole cc0_scratch6
abbrev sc_7 : Memref sig .tc .vmem S512x256 .f32 := Memref.whole cc0_scratch7

/-- What the points share: the scratch at any contents and the generator register. -/
theorem Phi_eq (c : Dev nD) :
    (Pipeline.ΦA spec0 c : sProp 𝕄) = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d) ∗ (∃ d, owns (c : Thread nD τ) sc_4 fullShare d) ∗ (∃ d, owns (c : Thread nD τ) sc_5 fullShare d) ∗ (∃ d, owns (c : Thread nD τ) sc_6 fullShare d) ∗ (∃ d, owns (c : Thread nD τ) sc_7 fullShare d)) ∗ (∃ r, prngReg c r)) := by
  unfold Pipeline.ΦA; rw [scopedRest0_eq]; simp only [sc_0, sc_1, sc_2, sc_3, sc_4, sc_5, sc_6, sc_7, owns_whole]; try rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare d))

/-- What the body returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ (∃ d, owns (c : Thread nD τ) (ms_8 t) fullShare d))

set_option maxHeartbeats 1600000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, Phi_eq]
  rcases cases_of t with ⟨h1, h2, h3, h4⟩ | ⟨h1, h2, h3, h4⟩ | ⟨h1, h2, h3, h4⟩
  · iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_odd c (grid0.coords t) _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_even c (grid0.coords t) _ _ _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, with the inputs' arrays unchanged and every counter zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution leaves the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h0 c => by
    have h := h0.1
    exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      ((h c).2 main_arg6 (Pipeline.mem_restRefs_of main_arg6 (by decide) (by decide))).trans (V_main_arg6 m c),
      (Pipeline.RDat.FramePost.arr_in h c 7 rfl).trans ((A_eq m c 7).trans (V_main_arg7 m c))⟩) (run_main m ρ)

/-- Every execution ends with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main m ρ))

end Cert.Proof.AttnIdeal

end
-- ==== Proof.Causal.lean ====
module
public import Idealize.ShloMosaic.Lib.Pointwise

@[expose] public section
set_option maxRecDepth 16384
noncomputable section
open Idealize.ShloMosaic

/-! Rows normalised and projected, and rows read from above: of a sequence, of a block, of a group of 256 rows. -/
namespace Cert.Proof.Ffn

/-- A row divided by its root mean square and multiplied by a gain. -/
def nrm (x g : Fin 1024 → EReal) (k : Fin 1024) : EReal :=
  x k * Ideal.rsqrt (Ideal.div (∑ l, x l * x l) (Ideal.ofBits FTy.f32 0x44800000#32) + Ideal.ofBits FTy.f32 0x358637BD#32) * g k

/-- One entry of the up projection of a normalised row. -/
def up (x g w : Fin 1024 → EReal) : EReal := ∑ k, nrm x g k * w k

/-- The three taps of the causal convolution. -/
def gate (z2 z1 z0 w0 w1 w2 : EReal) : EReal := z2 * w0 + z1 * w1 + z0 * w2

/-- The entry `n` rows above row `s` of a sequence, zero before its start. -/
def before (n : ℕ) (F : Fin 2048 → EReal) (s : Fin 2048) : EReal := if h : n ≤ s.val then F ⟨s.val - n, by omega⟩ else 0

section
variable {q : ℕ}

/-- The row `n` above row `r` of a group, the rows above the group being the tail's last. -/
def above (tl : FVec Ideal ⟨2, ![8, q]⟩ .f32) (z : FVec Ideal ⟨2, ![256, q]⟩ .f32) (n : ℕ) (hn : n ≤ 8) (r : Fin 256) (f : Fin q) : EReal :=
  if h : r.val < n then tl (ix2 ⟨r.val + 8 - n, by omega⟩ f) else z (ix2 ⟨r.val - n, by omega⟩ f)

theorem slt2 : ∀ r : Fin 8, IntOp.cmpi CmpIPredicate.slt (BitVec.ofNat 32 r.val) 2#32 = if r.val < 2 then 1#1 else 0#1 := by decide
theorem slt1 : ∀ r : Fin 8, IntOp.cmpi CmpIPredicate.slt (BitVec.ofNat 32 r.val) 1#32 = if r.val < 1 then 1#1 else 0#1 := by decide

theorem shift2 (tl : FVec Ideal ⟨2, ![8, q]⟩ .f32) (z : FVec Ideal ⟨2, ![256, q]⟩ .f32) (r : Fin 256) (f : Fin q)
    (h1 : r.val < 8 → (r.val + 8 - 2) % 8 < 8) (h2 : r.val < 8 → (r.val + 256 - 2) % 256 < 256) (h3 : ¬ r.val < 8 → (8 + (r.val - 8) + 256 - 2) % 256 < 256) :
    (if h : r.val < 8 then
        Scalar.select (IntOp.cmpi CmpIPredicate.slt (BitVec.ofNat 32 r.val) 2#32)
          (tl (ix2 ⟨(r.val + 8 - 2) % 8, h1 h⟩ f)) (z (ix2 ⟨(r.val + 256 - 2) % 256, h2 h⟩ f))
      else z (ix2 ⟨(8 + (r.val - 8) + 256 - 2) % 256, h3 h⟩ f)) = above tl z 2 (by decide) r f := by
  unfold above
  by_cases h : r.val < 8
  · rw [dif_pos h, slt2 ⟨r.val, h⟩]
    by_cases h2 : r.val < 2
    · rw [dif_pos h2, if_pos h2]
      exact congrArg tl (congrArg (fun a => ix2 a f) (Fin.ext (by show (r.val + 8 - 2) % 8 = r.val + 8 - 2; omega)))
    · rw [dif_neg h2, if_neg h2]
      exact congrArg z (congrArg (fun a => ix2 a f) (Fin.ext (by show (r.val + 256 - 2) % 256 = r.val - 2; omega)))
  · rw [dif_neg h, dif_neg (by omega)]
    exact congrArg z (congrArg (fun a => ix2 a f) (Fin.ext (by show (8 + (r.val - 8) + 256 - 2) % 256 = r.val - 2; omega)))

theorem shift1 (tl : FVec Ideal ⟨2, ![8, q]⟩ .f32) (z : FVec Ideal ⟨2, ![256, q]⟩ .f32) (r : Fin 256) (f : Fin q)
    (h1 : r.val < 8 → (r.val + 8 - 1) % 8 < 8) (h2 : r.val < 8 → (r.val + 256 - 1) % 256 < 256) (h3 : ¬ r.val < 8 → (8 + (r.val - 8) + 256 - 1) % 256 < 256) :
    (if h : r.val < 8 then
        Scalar.select (IntOp.cmpi CmpIPredicate.slt (BitVec.ofNat 32 r.val) 1#32)
          (tl (ix2 ⟨(r.val + 8 - 1) % 8, h1 h⟩ f)) (z (ix2 ⟨(r.val + 256 - 1) % 256, h2 h⟩ f))
      else z (ix2 ⟨(8 + (r.val - 8) + 256 - 1) % 256, h3 h⟩ f)) = above tl z 1 (by decide) r f := by
  unfold above
  by_cases h : r.val < 8
  · rw [dif_pos h, slt1 ⟨r.val, h⟩]
    by_cases h2 : r.val < 1
    · rw [dif_pos h2, if_pos h2]
      exact congrArg tl (congrArg (fun a => ix2 a f) (Fin.ext (by show (r.val + 8 - 1) % 8 = r.val + 8 - 1; omega)))
    · rw [dif_neg h2, if_neg h2]
      exact congrArg z (congrArg (fun a => ix2 a f) (Fin.ext (by show (r.val + 256 - 1) % 256 = r.val - 1; omega)))
  · rw [dif_neg h, dif_neg (by omega)]
    exact congrArg z (congrArg (fun a => ix2 a f) (Fin.ext (by show (8 + (r.val - 8) + 256 - 1) % 256 = r.val - 1; omega)))

variable {N : ℕ}

/-- The entry `n` rows above row `r` of a block, the rows above the block being the tail's last. -/
def blkAbove (tl : FVec Ideal ⟨2, ![8, q]⟩ .f32) (P : Fin N → Fin q → EReal) (n : ℕ) (hn : n ≤ 8) (r : Fin N) (f : Fin q) : EReal :=
  if h : r.val < n then tl (ix2 ⟨r.val + 8 - n, by omega⟩ f) else P ⟨r.val - n, by omega⟩ f

/-- A group's row above is the block's row above. -/
theorem aboveBlk (tl : FVec Ideal ⟨2, ![8, q]⟩ .f32) (z : FVec Ideal ⟨2, ![256, q]⟩ .f32) (tl' : FVec Ideal ⟨2, ![8, q]⟩ .f32) (P : Fin N → Fin q → EReal) (o : ℕ) (ho : o + 256 ≤ N)
    (hz : ∀ (r : Fin 256) (f : Fin q), z (ix2 r f) = P ⟨o + r.val, by omega⟩ f)
    (ht : (o = 0 ∧ tl' = tl) ∨ (8 ≤ o ∧ ∀ (i : Fin 8) (f : Fin q), tl' (ix2 i f) = P ⟨o - 8 + i.val, by omega⟩ f))
    (n : ℕ) (hn : n ≤ 8) (r : Fin 256) (f : Fin q) (R : Fin N) (hR : R.val = o + r.val) :
    above tl' z n hn r f = blkAbove tl P n hn R f := by
  obtain ⟨R, hR'⟩ := R
  subst hR
  unfold above blkAbove
  rcases ht with ⟨rfl, rfl⟩ | ⟨h8, ht⟩
  · by_cases h : r.val < n
    · rw [dif_pos h, dif_pos (by simpa using h)]
      exact congrArg tl' (congrArg (fun a => ix2 a f) (Fin.ext (by show r.val + 8 - n = 0 + r.val + 8 - n; omega)))
    · rw [dif_neg h, dif_neg (by simpa using h), hz]
      exact congrArg (fun a => P a f) (Fin.ext (by show 0 + (r.val - n) = 0 + r.val - n; omega))
  · rw [dif_neg (show ¬ (o + r.val < n) by omega)]
    by_cases h : r.val < n
    · rw [dif_pos h, ht]
      exact congrArg (fun a => P a f) (Fin.ext (by show o - 8 + (r.val + 8 - n) = o + r.val - n; omega))
    · rw [dif_neg h, hz]
      exact congrArg (fun a => P a f) (Fin.ext (by show o + (r.val - n) = o + r.val - n; omega))
end

theorem zero_word : FloatOps.sitofp (F := Ideal) (w := 32) FTy.f32 0#32 = (0 : EReal) := by
  show (((0#32 : BitVec 32).toInt : ℝ) : EReal) = 0
  simp

/-- A row shifted down by two, as the padded slice reads it. -/
def two (F : Fin 2048 → EReal) (s : Fin 2048) : EReal :=
  if h : 2 ≤ s.val ∧ s.val - 2 < 2048 then F ⟨s.val - 2, h.2⟩ else FloatOps.sitofp (F := Ideal) (w := 32) FTy.f32 0#32
/-- A row shifted down by one, as the padded slice reads it. -/
def one (F : Fin 2048 → EReal) (s : Fin 2048) : EReal :=
  if h : 2 ≤ 1 + s.val ∧ 1 + s.val - 2 < 2048 then F ⟨1 + s.val - 2, h.2⟩ else FloatOps.sitofp (F := Ideal) (w := 32) FTy.f32 0#32

theorem two_eq : two = before 2 := by
  funext F s; unfold two before
  by_cases h : 2 ≤ s.val
  · rw [dif_pos ⟨h, by omega⟩, dif_pos h]
  · rw [dif_neg (by omega), dif_neg h, zero_word]
theorem one_eq : one = before 1 := by
  funext F s; unfold one before
  by_cases h : 1 ≤ s.val
  · rw [dif_pos ⟨by omega, by omega⟩, dif_pos h]
    exact congrArg F (Fin.ext (by show 1 + s.val - 2 = s.val - 1; omega))
  · rw [dif_neg (by omega), dif_neg h, zero_word]
end Cert.Proof.Ffn
end
-- ==== Proof.FfnPure.lean ====
module
public import proofs.«01_k».proof.Proof.Causal
public import proofs.«01_k».proof.Proof.Gen.FfnIdeal.Skeleton
public import Idealize.ShloMosaic.Lib.Pointwise

@[expose] public section
set_option maxRecDepth 16384
noncomputable section
open Idealize.ShloMosaic Idealize.ShloMosaic.TcCoe Idealize.SL.Sem

/-! The feed-forward layer row by row, over the extended reals. -/
namespace Cert.Proof.Ffn

/-- A row's result: the gated product projected down, added to the row, normalised. -/
def out (x : Fin 1024 → EReal) (ga u : Fin 2816 → EReal) (w : Fin 2816 → Fin 1024 → EReal) (fg : Fin 1024 → EReal) (d : Fin 1024) : EReal :=
  nrm (fun e => x e + ∑ f, ga f * Ideal.div 1 (1 + Ideal.exp (-ga f)) * u f * w f e) fg d

/-- The layer's result at a batch entry, a position and a feature. -/
def ffnAt (X : FVec Ideal ⟨3, ![32, 2048, 1024]⟩ .f32) (g : FVec Ideal ⟨1, ![1024]⟩ .f32) (w : FVec Ideal ⟨2, ![1024, 5632]⟩ .f32)
    (cw : FVec Ideal ⟨2, ![3, 2816]⟩ .f32) (wd : FVec Ideal ⟨2, ![2816, 1024]⟩ .f32) (fg : FVec Ideal ⟨1, ![1024]⟩ .f32)
    (b : Fin 32) (s : Fin 2048) (d : Fin 1024) : EReal :=
  out (fun e => X (ix3 b s e))
    (fun f => gate
      (before 2 (fun s' => up (fun k => X (ix3 b s' k)) (fun k => g (ix1 k)) (fun k => w (ix2 k ⟨f.val, by omega⟩))) s)
      (before 1 (fun s' => up (fun k => X (ix3 b s' k)) (fun k => g (ix1 k)) (fun k => w (ix2 k ⟨f.val, by omega⟩))) s)
      (up (fun k => X (ix3 b s k)) (fun k => g (ix1 k)) (fun k => w (ix2 k ⟨f.val, by omega⟩)))
      (cw (ix2 0 f)) (cw (ix2 1 f)) (cw (ix2 2 f)))
    (fun f => up (fun k => X (ix3 b s k)) (fun k => g (ix1 k)) (fun k => w (ix2 k ⟨2816 + f.val, by omega⟩)))
    (fun f e => wd (ix2 f e)) (fun e => fg (ix1 e)) d

end Cert.Proof.Ffn

namespace Cert.Proof.FfnIdeal
open Cert.FfnIdeal Cert.FfnIdeal.Gen Cert.Proof.Ffn

section
variable (x : FVec Ideal S1x256x1024 .f32) (g : FVec Ideal S1x1024 .f32) (w : FVec Ideal S1024x2816 .bf16) (r : Fin 256) (f : Fin 2816)

/-- The up projection of a row of a group. -/
abbrev upAt : EReal := up (fun k => x (ix3 0 r k)) (fun k => g (ix2 0 k)) (fun k => w (ix2 k f))

theorem up5 : k0_pay5 (F := Ideal) x g w (ix2 r f) = upAt x g w r f := by
  pointwise [k0_pay5, k0_pay4]; rfl
theorem up6 : k0_pay6 (F := Ideal) x g w (ix2 r f) = upAt x g w r f := by
  pointwise [k0_pay6, k0_pay4]; rfl
theorem up10 : k0_pay10 (F := Ideal) (k0_pay7 x) (k0_pay8 x) g w (ix2 r f) = upAt x g w r f := by
  pointwise [k0_pay10, k0_pay9, k0_pay7, k0_pay8]; rfl
theorem up11 : k0_pay11 (F := Ideal) (k0_pay7 x) (k0_pay8 x) g w (ix2 r f) = upAt x g w r f := by
  pointwise [k0_pay11, k0_pay9, k0_pay7, k0_pay8]; rfl
theorem up19 : k0_pay19 (F := Ideal) (k0_pay16 x) (k0_pay17 x) g w (ix2 r f) = upAt x g w r f := by
  pointwise [k0_pay19, k0_pay18, k0_pay16, k0_pay17]; rfl
theorem up20 : k0_pay20 (F := Ideal) (k0_pay16 x) (k0_pay17 x) g w (ix2 r f) = upAt x g w r f := by
  pointwise [k0_pay20, k0_pay18, k0_pay16, k0_pay17]; rfl
theorem up26 : k0_pay26 (F := Ideal) x g w (ix2 r f) = upAt x g w r f := by
  pointwise [k0_pay26, k0_pay25]; rfl
theorem up27 : k0_pay27 (F := Ideal) x g w (ix2 r f) = upAt x g w r f := by
  pointwise [k0_pay27, k0_pay25]; rfl
end

section
variable (z u : FVec Ideal S256x2816 .f32) (tl : FVec Ideal S8x2816 .f32) (cw : FVec Ideal S3x2816 .f32)
   (x : FVec Ideal S1x256x1024 .f32) (w : FVec Ideal S2816x1024 .bf16) (fg : FVec Ideal S1x1024 .f32) (r : Fin 256) (d : Fin 1024)

/-- A row's result from the group's two projections, its tail and the weights. -/
abbrev outAt : EReal := out (fun e => x (ix3 0 r e))
  (fun f => gate (above tl z 2 (by decide) r f) (above tl z 1 (by decide) r f) (z (ix2 r f)) (cw (ix2 0 f)) (cw (ix2 1 f)) (cw (ix2 2 f)))
  (fun f => u (ix2 r f)) (fun f e => w (ix2 f e)) (fun e => fg (ix2 0 e)) d

theorem group0 : k0_pay15 (F := Ideal) z u (k0_pay12 tl z cw) (k0_pay13 cw) x w fg (ix3 0 r d) = outAt z u tl cw x w fg r d := by
  pointwise [k0_pay15, k0_pay12, k0_pay13]
  simp only [shift2, shift1, zero_sub]; rfl
theorem group1 : k0_pay24 (F := Ideal) z u cw (k0_pay21 z tl) (k0_pay22 z tl cw) x w fg (ix3 0 r d) = outAt z u tl cw x w fg r d := by
  pointwise [k0_pay24, k0_pay21, k0_pay22]
  simp only [shift2, shift1, zero_sub]; rfl
theorem group2 : k0_pay35 (F := Ideal) (k0_pay34 z u cw (k0_pay28 z) (k0_pay29 tl) (k0_pay30 z tl) k0_pay31 (k0_pay32 z) x w fg) (ix3 0 r d) = outAt z u tl cw x w fg r d := by
  pointwise [k0_pay35, k0_pay34, k0_pay28, k0_pay29, k0_pay30, k0_pay31, k0_pay32]
  simp only [shift2, shift1, zero_sub]; rfl
theorem group3 : k0_pay1 (F := Ideal) (k0_pay37 z u tl cw) x w fg (ix3 0 r d) = outAt z u tl cw x w fg r d := by
  pointwise [k0_pay1, k0_pay37]
  simp only [shift2, shift1, zero_sub]; rfl
theorem tail0 (i : Fin 8) (f : Fin 2816) : k0_pay14 (F := Ideal) z (ix2 i f) = z (ix2 ⟨248 + i.val, by omega⟩ f) := by
  pointwise [k0_pay14]
theorem tail1 (i : Fin 8) (f : Fin 2816) : k0_pay23 (F := Ideal) z (ix2 i f) = z (ix2 ⟨248 + i.val, by omega⟩ f) := by
  pointwise [k0_pay23]
theorem tail2 (i : Fin 8) (f : Fin 2816) : k0_pay33 (F := Ideal) z (ix2 i f) = z (ix2 ⟨248 + i.val, by omega⟩ f) := by
  pointwise [k0_pay33]
theorem tail3 (i : Fin 8) (f : Fin 2816) : k0_pay2 (F := Ideal) (k0_pay36 z) (ix2 i f) = z (ix2 ⟨248 + i.val, by omega⟩ f) := by
  pointwise [k0_pay2, k0_pay36]
theorem tailZero (i : Fin 8) (f : Fin 2816) : k0_pay3 (F := Ideal) (ix2 i f) = 0 := by
  pointwise [k0_pay3]
end
end Cert.Proof.FfnIdeal
end
-- ==== Proof.FfnValue.lean ====
module
public import proofs.«01_k».proof.Proof.FfnPure
public import proofs.«01_k».proof.Proof.Gen.FfnIdeal.Value
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Proof.FfnIdeal
open Cert.FfnIdeal Cert.FfnIdeal.Gen Cert.Proof.Ffn

variable (m : (ℓ : Loc nD τ sig) → Buf (Elt Ideal) ℓ) (c : Dev nD)

/-- The up projection of a row of a block. -/
abbrev blkUp (x : FVec Ideal S1x1024x1024 .f32) (g : FVec Ideal S1x1024 .f32) (w : FVec Ideal S1024x5632 .bf16) (j : Fin 2 ) (r : Fin 1024) (f : Fin 2816) : EReal :=
  up (fun k => x (ix3 0 r k)) (fun k => g (ix2 0 k)) (fun k => w (ix2 k ⟨2816 * j.val + f.val, by omega⟩))

section
variable (x0 : FVec Ideal S1x1024x1024 .f32) (g : FVec Ideal S1x1024 .f32) (w : FVec Ideal S1024x5632 .bf16) (cw : FVec Ideal S3x2816 .f32)
  (wd : FVec Ideal S2816x1024 .bf16) (fg : FVec Ideal S1x1024 .f32) (tl : FVec Ideal S8x2816 .f32)

/-- An entry of a block's result: of row `R`, at feature `d`. -/
def blkOut (R : Fin 1024) (d : Fin 1024) : EReal :=
  out (fun e => x0 (ix3 0 R e))
    (fun f => gate (blkAbove tl (blkUp x0 g w 0) 2 (by decide) R f) (blkAbove tl (blkUp x0 g w 0) 1 (by decide) R f) (blkUp x0 g w 0 R f)
      (cw (ix2 0 f)) (cw (ix2 1 f)) (cw (ix2 2 f)))
    (fun f => blkUp x0 g w 1 R f) (fun f e => wd (ix2 f e)) (fun e => fg (ix2 0 e)) d

/-- The up projection of a group's row is that of the block's row. -/
theorem upBlk (x : FVec Ideal S1x256x1024 .f32) (wl : FVec Ideal S1024x2816 .bf16) (o : ℕ) (ho : o + 256 ≤ 1024) (j : Fin 2)
    (hx : ∀ (r : Fin 256) (k : Fin 1024), x (ix3 0 r k) = x0 (ix3 0 ⟨o + r.val, by omega⟩ k))
    (hw : ∀ (k : Fin 1024) (f : Fin 2816), wl (ix2 k f) = w (ix2 k ⟨2816 * j.val + f.val, by omega⟩)) (r : Fin 256) (f : Fin 2816) :
    upAt x g wl r f = blkUp x0 g w j ⟨o + r.val, by omega⟩ f := by
  unfold upAt blkUp
  simp only [hx, hw]

/-- A group's result is the block's. -/
theorem core (z u : FVec Ideal S256x2816 .f32) (tl' : FVec Ideal S8x2816 .f32) (x : FVec Ideal S1x256x1024 .f32) (o : ℕ) (ho : o + 256 ≤ 1024)
    (hx : ∀ (r : Fin 256) (k : Fin 1024), x (ix3 0 r k) = x0 (ix3 0 ⟨o + r.val, by omega⟩ k))
    (hz : ∀ (r : Fin 256) (f : Fin 2816), z (ix2 r f) = blkUp x0 g w 0 ⟨o + r.val, by omega⟩ f)
    (hu : ∀ (r : Fin 256) (f : Fin 2816), u (ix2 r f) = blkUp x0 g w 1 ⟨o + r.val, by omega⟩ f)
    (ht : (o = 0 ∧ tl' = tl) ∨ (8 ≤ o ∧ ∀ (i : Fin 8) (f : Fin 2816), tl' (ix2 i f) = blkUp x0 g w 0 ⟨o - 8 + i.val, by omega⟩ f))
    (r : Fin 256) (d : Fin 1024) (R : Fin 1024) (hR : R.val = o + r.val) :
    outAt z u tl' cw x wd fg r d = blkOut x0 g w cw wd fg tl R d := by
  have e2 := fun f => aboveBlk tl z tl' (blkUp x0 g w 0) o ho hz ht 2 (by decide) r f R hR
  have e1 := fun f => aboveBlk tl z tl' (blkUp x0 g w 0) o ho hz ht 1 (by decide) r f R hR
  have eR : (⟨o + r.val, by omega⟩ : Fin 1024) = R := Fin.ext hR.symm
  unfold outAt blkOut
  simp only [e2, e1, hx, hz, hu, eR]
end

section
variable (x : Vec Ideal S1x1024x1024 .f32) (w : Vec Ideal S1024x5632 .bf16)
theorem ldw0 (k : Fin 1024) (f : Fin 2816) : (View.ld w (Rect.unit ![0, 0] ![1024, 2816] inb_S1024x5632_S1024x2816_0_0) : Vec Ideal S1024x2816 .bf16) (ix2 k f)
    = w (ix2 k ⟨2816 * (0 : Fin 2).val + f.val, by have := f.isLt; show 2816 * 0 + f.val < 5632; omega⟩) :=
  View.ld_unit_apply_of _ _ _ _ _ _ (Fin.forall_fin_two.2 ⟨(Nat.zero_add k.val).symm, by show 2816 * 0 + f.val = 0 + f.val; omega⟩)
theorem ldw1 (k : Fin 1024) (f : Fin 2816) : (View.ld w (Rect.unit ![0, 2816] ![1024, 2816] inb_S1024x5632_S1024x2816_0_2816) : Vec Ideal S1024x2816 .bf16) (ix2 k f)
    = w (ix2 k ⟨2816 * (1 : Fin 2).val + f.val, by have := f.isLt; show 2816 * 1 + f.val < 5632; omega⟩) :=
  View.ld_unit_apply_of _ _ _ _ _ _ (Fin.forall_fin_two.2 ⟨(Nat.zero_add k.val).symm, rfl⟩)
theorem ldx0 (r : Fin 256) (k : Fin 1024) : (View.ld x (Rect.unit ![0, 0, 0] ![1, 256, 1024] inb_S1x1024x1024_S1x256x1024_0_0_0) : Vec Ideal S1x256x1024 .f32) (ix3 0 r k)
    = x (ix3 0 ⟨0 + r.val, by omega⟩ k) :=
  View.ld_unit_apply_of _ _ _ _ _ _ (fun a => match a with | ⟨0, _⟩ => rfl | ⟨1, _⟩ => rfl | ⟨2, _⟩ => (Nat.zero_add k.val).symm)
theorem ldx1 (r : Fin 256) (k : Fin 1024) : (View.ld x (Rect.unit ![0, 256, 0] ![1, 256, 1024] inb_S1x1024x1024_S1x256x1024_0_256_0) : Vec Ideal S1x256x1024 .f32) (ix3 0 r k)
    = x (ix3 0 ⟨256 + r.val, by omega⟩ k) :=
  View.ld_unit_apply_of _ _ _ _ _ _ (fun a => match a with | ⟨0, _⟩ => rfl | ⟨1, _⟩ => rfl | ⟨2, _⟩ => (Nat.zero_add k.val).symm)
theorem ldx2 (r : Fin 256) (k : Fin 1024) : (View.ld x (Rect.unit ![0, 512, 0] ![1, 256, 1024] inb_S1x1024x1024_S1x256x1024_0_512_0) : Vec Ideal S1x256x1024 .f32) (ix3 0 r k)
    = x (ix3 0 ⟨512 + r.val, by omega⟩ k) :=
  View.ld_unit_apply_of _ _ _ _ _ _ (fun a => match a with | ⟨0, _⟩ => rfl | ⟨1, _⟩ => rfl | ⟨2, _⟩ => (Nat.zero_add k.val).symm)
theorem ldx3 (r : Fin 256) (k : Fin 1024) : (View.ld x (Rect.unit ![0, 768, 0] ![1, 256, 1024] inb_S1x1024x1024_S1x256x1024_0_768_0) : Vec Ideal S1x256x1024 .f32) (ix3 0 r k)
    = x (ix3 0 ⟨768 + r.val, by omega⟩ k) :=
  View.ld_unit_apply_of _ _ _ _ _ _ (fun a => match a with | ⟨0, _⟩ => rfl | ⟨1, _⟩ => rfl | ⟨2, _⟩ => (Nat.zero_add k.val).symm)
end

/-- What the body leaves in the output's block, from what it finds in the carried rows. -/
theorem block_point (c : Dev nD) (t : Fin cfg0.N) (tl : FVec Ideal S8x2816 .f32)
    (ht : (t.val % 2 = 0 ∧ tl = k0_pay3 (F := Ideal)) ∨ (∃ h : ¬ t.val % 2 = 0, tl = (outsAt0 m c (t.val - 1) (by have := t.isLt; omega)).2)) (R d : Fin 1024) :
    (outsAt0 m c t.val t.isLt).1 (ix3 0 R d)
      = blkOut (iblk m c 0 t) (iblk m c 1 t) (iblk m c 2 t) (iblk m c 3 t) (iblk m c 4 t) (iblk m c 5 t) tl R d := by
  have hw0 := ldw0 (iblk m c 2 t)
  have hw1 := ldw1 (iblk m c 2 t)
  have hx0 := ldx0 (iblk m c 0 t)
  have hx1 := ldx1 (iblk m c 0 t)
  have hx2 := ldx2 (iblk m c 0 t)
  have hx3 := ldx3 (iblk m c 0 t)
  rcases ht with ⟨h, ht⟩ | ⟨h, ht⟩
  · rw [outsAt0_A m c t h]; frame_out
    canon_tiles x hh
    · idx_vars x
      obtain rfl : x0 = 0 := Subsingleton.elim _ _
      obtain rfl : d = x2 := Fin.ext hh2
      refine (group3 _ _ _ _ _ _ _ x1 d).trans (core _ _ _ _ _ _ tl _ _ _ _ 768 (by decide) hx3 (fun r f => (up26 _ _ _ r f).trans (upBlk _ _ _ _ _ 768 (by decide) 0 hx3 hw0 r f))
        (fun r f => (up27 _ _ _ r f).trans (upBlk _ _ _ _ _ 768 (by decide) 1 hx3 hw1 r f)) ?_ x1 d R hh1)
      exact .inr ⟨by decide, fun i f => (tail2 _ i f).trans ((up19 _ _ _ _ f).trans ((upBlk _ _ _ _ _ 512 (by decide) 0 hx2 hw0 _ f).trans (congrArg (fun a => blkUp _ _ _ 0 a f) (Fin.ext (by show 512 + (248 + i.val) = 768 - 8 + i.val; omega)))))⟩
    · idx_vars x
      obtain rfl : x0 = 0 := Subsingleton.elim _ _
      obtain rfl : d = x2 := Fin.ext hh2
      refine (group2 _ _ _ _ _ _ _ x1 d).trans (core _ _ _ _ _ _ tl _ _ _ _ 512 (by decide) hx2 (fun r f => (up19 _ _ _ r f).trans (upBlk _ _ _ _ _ 512 (by decide) 0 hx2 hw0 r f))
        (fun r f => (up20 _ _ _ r f).trans (upBlk _ _ _ _ _ 512 (by decide) 1 hx2 hw1 r f)) ?_ x1 d R hh1)
      exact .inr ⟨by decide, fun i f => (tail1 _ i f).trans ((up10 _ _ _ _ f).trans ((upBlk _ _ _ _ _ 256 (by decide) 0 hx1 hw0 _ f).trans (congrArg (fun a => blkUp _ _ _ 0 a f) (Fin.ext (by show 256 + (248 + i.val) = 512 - 8 + i.val; omega)))))⟩
    · idx_vars x
      obtain rfl : x0 = 0 := Subsingleton.elim _ _
      obtain rfl : d = x2 := Fin.ext hh2
      refine (group1 _ _ _ _ _ _ _ x1 d).trans (core _ _ _ _ _ _ tl _ _ _ _ 256 (by decide) hx1 (fun r f => (up10 _ _ _ r f).trans (upBlk _ _ _ _ _ 256 (by decide) 0 hx1 hw0 r f))
        (fun r f => (up11 _ _ _ r f).trans (upBlk _ _ _ _ _ 256 (by decide) 1 hx1 hw1 r f)) ?_ x1 d R hh1)
      exact .inr ⟨by decide, fun i f => (tail0 _ i f).trans ((up5 _ _ _ _ f).trans ((upBlk _ _ _ _ _ 0 (by decide) 0 hx0 hw0 _ f).trans (congrArg (fun a => blkUp _ _ _ 0 a f) (Fin.ext (by show 0 + (248 + i.val) = 256 - 8 + i.val; omega)))))⟩
    · idx_vars x
      obtain rfl : x0 = 0 := Subsingleton.elim _ _
      obtain rfl : d = x2 := Fin.ext hh2
      refine (group0 _ _ _ _ _ _ _ x1 d).trans (core _ _ _ _ _ _ tl _ _ _ _ 0 (by decide) hx0 (fun r f => (up5 _ _ _ r f).trans (upBlk _ _ _ _ _ 0 (by decide) 0 hx0 hw0 r f))
        (fun r f => (up6 _ _ _ r f).trans (upBlk _ _ _ _ _ 0 (by decide) 1 hx0 hw1 r f)) ?_ x1 d R (by simpa using hh1))
      exact .inl ⟨rfl, ht.symm⟩
  · rw [outsAt0_B m c t h]; frame_out
    canon_tiles x hh
    · idx_vars x
      obtain rfl : x0 = 0 := Subsingleton.elim _ _
      obtain rfl : d = x2 := Fin.ext hh2
      refine (group3 _ _ _ _ _ _ _ x1 d).trans (core _ _ _ _ _ _ tl _ _ _ _ 768 (by decide) hx3 (fun r f => (up26 _ _ _ r f).trans (upBlk _ _ _ _ _ 768 (by decide) 0 hx3 hw0 r f))
        (fun r f => (up27 _ _ _ r f).trans (upBlk _ _ _ _ _ 768 (by decide) 1 hx3 hw1 r f)) ?_ x1 d R hh1)
      exact .inr ⟨by decide, fun i f => (tail2 _ i f).trans ((up19 _ _ _ _ f).trans ((upBlk _ _ _ _ _ 512 (by decide) 0 hx2 hw0 _ f).trans (congrArg (fun a => blkUp _ _ _ 0 a f) (Fin.ext (by show 512 + (248 + i.val) = 768 - 8 + i.val; omega)))))⟩
    · idx_vars x
      obtain rfl : x0 = 0 := Subsingleton.elim _ _
      obtain rfl : d = x2 := Fin.ext hh2
      refine (group2 _ _ _ _ _ _ _ x1 d).trans (core _ _ _ _ _ _ tl _ _ _ _ 512 (by decide) hx2 (fun r f => (up19 _ _ _ r f).trans (upBlk _ _ _ _ _ 512 (by decide) 0 hx2 hw0 r f))
        (fun r f => (up20 _ _ _ r f).trans (upBlk _ _ _ _ _ 512 (by decide) 1 hx2 hw1 r f)) ?_ x1 d R hh1)
      exact .inr ⟨by decide, fun i f => (tail1 _ i f).trans ((up10 _ _ _ _ f).trans ((upBlk _ _ _ _ _ 256 (by decide) 0 hx1 hw0 _ f).trans (congrArg (fun a => blkUp _ _ _ 0 a f) (Fin.ext (by show 256 + (248 + i.val) = 512 - 8 + i.val; omega)))))⟩
    · idx_vars x
      obtain rfl : x0 = 0 := Subsingleton.elim _ _
      obtain rfl : d = x2 := Fin.ext hh2
      refine (group1 _ _ _ _ _ _ _ x1 d).trans (core _ _ _ _ _ _ tl _ _ _ _ 256 (by decide) hx1 (fun r f => (up10 _ _ _ r f).trans (upBlk _ _ _ _ _ 256 (by decide) 0 hx1 hw0 r f))
        (fun r f => (up11 _ _ _ r f).trans (upBlk _ _ _ _ _ 256 (by decide) 1 hx1 hw1 r f)) ?_ x1 d R hh1)
      exact .inr ⟨by decide, fun i f => (tail0 _ i f).trans ((up5 _ _ _ _ f).trans ((upBlk _ _ _ _ _ 0 (by decide) 0 hx0 hw0 _ f).trans (congrArg (fun a => blkUp _ _ _ 0 a f) (Fin.ext (by show 0 + (248 + i.val) = 256 - 8 + i.val; omega)))))⟩
    · idx_vars x
      obtain rfl : x0 = 0 := Subsingleton.elim _ _
      obtain rfl : d = x2 := Fin.ext hh2
      refine (group0 _ _ _ _ _ _ _ x1 d).trans (core _ _ _ _ _ _ tl _ _ _ _ 0 (by decide) hx0 (fun r f => (up5 _ _ _ r f).trans (upBlk _ _ _ _ _ 0 (by decide) 0 hx0 hw0 r f))
        (fun r f => (up6 _ _ _ r f).trans (upBlk _ _ _ _ _ 0 (by decide) 1 hx0 hw1 r f)) ?_ x1 d R (by simpa using hh1))
      exact .inl ⟨rfl, ((Memref.isWhole_whole _).read_unread _).trans ht.symm⟩

/-- The windows' index maps. -/
theorem idx : ∀ t : Fin cfg0.N, win0_0.index t = ![t.val / 2, t.val % 2, 0] ∧ win0_1.index t = ![0, 0] ∧ win0_2.index t = ![0, 0] ∧ win0_3.index t = ![0, 0]
    ∧ win0_4.index t = ![0, 0] ∧ win0_5.index t = ![0, 0] ∧ win0_6.index t = ![t.val / 2, t.val % 2, 0] ∧ t.val < 64 :=
  (by decide +kernel : ∀ t : Fin grid0.N, win0_0.index t = ![t.val / 2, t.val % 2, 0] ∧ win0_1.index t = ![0, 0] ∧ win0_2.index t = ![0, 0] ∧ win0_3.index t = ![0, 0]
    ∧ win0_4.index t = ![0, 0] ∧ win0_5.index t = ![0, 0] ∧ win0_6.index t = ![t.val / 2, t.val % 2, 0] ∧ t.val < 64)

theorem rd0 (t : Fin cfg0.N) (R k : Fin 1024) : (iblk m c 0 t : Vec Ideal S1x1024x1024 .f32) (ix3 0 R k)
    = (m ((c.tc : Thread nD τ).loc main_arg0) : Vec Ideal S32x2048x1024 .f32) (ix3 ⟨t.val / 2, by have := (idx t).2.2.2.2.2.2.2; omega⟩ ⟨1024 * (t.val % 2) + R.val, by omega⟩ k) := by
  blk_point [iblk, V, idx t]
theorem rd1 (t : Fin cfg0.N) (k : Fin 1024) : (iblk m c 1 t : Vec Ideal S1x1024 .f32) (ix2 0 k)
    = (m ((c.tc : Thread nD τ).loc main_arg1) : Vec Ideal S1024 .f32) (ix1 k) := by
  blk_point [iblk, V, idx t]
theorem rd2 (t : Fin cfg0.N) (k : Fin 1024) (f : Fin 5632) : (iblk m c 2 t : Vec Ideal S1024x5632 .bf16) (ix2 k f)
    = (m ((c.tc : Thread nD τ).loc main_arg2) : Vec Ideal S1024x5632 .f32) (ix2 k f) := by
  blk_point [iblk, V, idx t]
theorem rd3 (t : Fin cfg0.N) (k : Fin 3) (f : Fin 2816) : (iblk m c 3 t : Vec Ideal S3x2816 .f32) (ix2 k f)
    = (m ((c.tc : Thread nD τ).loc main_arg3) : Vec Ideal S3x2816 .f32) (ix2 k f) := by
  blk_point [iblk, V, idx t]
theorem rd4 (t : Fin cfg0.N) (f : Fin 2816) (k : Fin 1024) : (iblk m c 4 t : Vec Ideal S2816x1024 .bf16) (ix2 f k)
    = (m ((c.tc : Thread nD τ).loc main_arg4) : Vec Ideal S2816x1024 .f32) (ix2 f k) := by
  blk_point [iblk, V, idx t]
theorem rd5 (t : Fin cfg0.N) (k : Fin 1024) : (iblk m c 5 t : Vec Ideal S1x1024 .f32) (ix2 0 k)
    = (m ((c.tc : Thread nD τ).loc main_arg5) : Vec Ideal S1024 .f32) (ix1 k) := by
  blk_point [iblk, V, idx t]
/-- The rows an even point carries on: the last of its block's up projection. -/
theorem carried (t : Fin cfg0.N) (h : t.val % 2 = 0) (i : Fin 8) (f : Fin 2816) :
    ((outsAt0 m c t.val t.isLt).2 : Vec Ideal S8x2816 .f32) (ix2 i f) = blkUp (iblk m c 0 t) (iblk m c 1 t) (iblk m c 2 t) 0 ⟨1016 + i.val, by omega⟩ f := by
  rw [outsAt0_A m c t h]; frame_out
  refine (tail3 _ i f).trans ((up26 _ _ _ _ f).trans ((upBlk _ _ _ _ _ 768 (by decide) 0 (ldx3 _) (ldw0 _) _ f).trans (congrArg (fun a => blkUp _ _ _ 0 a f) (Fin.ext (by show 768 + (248 + i.val) = 1016 + i.val; omega)))))
end Cert.Proof.FfnIdeal
end
-- ==== Proof.FfnFinal.lean ====
module
public import proofs.«01_k».proof.Proof.FfnValue

@[expose] public section
set_option maxRecDepth 16384
noncomputable section
open Idealize.ShloMosaic Idealize.ShloMosaic.TcCoe Idealize.SL.Sem
open Idealize.ShloMosaic.Pipeline (Dat)
namespace Cert.Proof.FfnIdeal
open Cert.FfnIdeal Cert.FfnIdeal.Gen Cert.Proof.Ffn

variable (m : (ℓ : Loc nD τ sig) → Buf (Elt Ideal) ℓ) (c : Dev nD)

/-- The up projection of the arguments' rows. -/
abbrev mUp (j : Fin 2) (b : Fin 32) (s : Fin 2048) (f : Fin 2816) : EReal :=
  up (fun k => (m ((c.tc : Thread nD τ).loc main_arg0) : Vec Ideal S32x2048x1024 .f32) (ix3 b s k)) (fun k => (m ((c.tc : Thread nD τ).loc main_arg1) : Vec Ideal S1024 .f32) (ix1 k))
    (fun k => (m ((c.tc : Thread nD τ).loc main_arg2) : Vec Ideal S1024x5632 .f32) (ix2 k ⟨2816 * j.val + f.val, by omega⟩))

theorem blkUp_eq (t : Fin cfg0.N) (j : Fin 2) (R : Fin 1024) (f : Fin 2816) (b : Fin 32) (s : Fin 2048) (hb : b.val = t.val / 2) (hs : s.val = 1024 * (t.val % 2) + R.val) :
    blkUp (iblk m c 0 t) (iblk m c 1 t) (iblk m c 2 t) j R f = mUp m c j b s f := by
  obtain ⟨b, hb'⟩ := b
  obtain ⟨s, hs'⟩ := s
  subst hb hs
  unfold blkUp mUp
  simp only [rd0 m c t, rd1 m c t, rd2 m c t]

/-- The rows above, read through the block and the carried rows, are the sequence's. -/
theorem above_eq (t : Fin cfg0.N) (tl : FVec Ideal S8x2816 .f32)
    (ht : (t.val % 2 = 0 ∧ tl = k0_pay3 (F := Ideal)) ∨ (∃ h : ¬ t.val % 2 = 0, tl = (outsAt0 m c (t.val - 1) (by have := t.isLt; omega)).2))
    (n : ℕ) (hn : n ≤ 8) (R : Fin 1024) (f : Fin 2816) (b : Fin 32) (s : Fin 2048) (hb : b.val = t.val / 2) (hs : s.val = 1024 * (t.val % 2) + R.val) :
    blkAbove tl (blkUp (iblk m c 0 t) (iblk m c 1 t) (iblk m c 2 t) 0) n hn R f = before n (fun s' => mUp m c 0 b s' f) s := by
  unfold blkAbove before
  by_cases h : R.val < n
  · rw [dif_pos h]
    rcases ht with ⟨h0, rfl⟩ | ⟨h0, rfl⟩
    · rw [dif_neg (by omega)]
      exact tailZero _ f
    · have h1 : t.val < cfg0.N := t.isLt
      rw [dif_pos (by omega)]
      refine (carried m c ⟨t.val - 1, by omega⟩ (by show (t.val - 1) % 2 = 0; omega) _ f).trans ?_
      exact blkUp_eq m c ⟨t.val - 1, by omega⟩ 0 _ f b _ (by show b.val = (t.val - 1) / 2; omega)
        (by show s.val - n = 1024 * ((t.val - 1) % 2) + (1016 + (R.val + 8 - n)); omega)
  · rw [dif_neg h, dif_pos (by omega)]
    exact blkUp_eq m c t 0 _ f b _ hb (by show s.val - n = 1024 * (t.val % 2) + (R.val - n); omega)

/-- What the body leaves in the output's block, from the arguments. -/
theorem point (t : Fin cfg0.N) (R d : Fin 1024) (b : Fin 32) (s : Fin 2048) (hb : b.val = t.val / 2) (hs : s.val = 1024 * (t.val % 2) + R.val) :
    (outsAt0 m c t.val t.isLt).1 (ix3 0 R d)
      = ffnAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b s d := by
  obtain ⟨tl, ht⟩ : ∃ tl : FVec Ideal S8x2816 .f32, (t.val % 2 = 0 ∧ tl = k0_pay3 (F := Ideal)) ∨ (∃ h : ¬ t.val % 2 = 0, tl = (outsAt0 m c (t.val - 1) (by have := t.isLt; omega)).2) := by
    by_cases h : t.val % 2 = 0
    · exact ⟨_, .inl ⟨h, rfl⟩⟩
    · exact ⟨_, .inr ⟨h, rfl⟩⟩
  rw [block_point m c t tl ht R d]
  have e2 := fun f => above_eq m c t tl ht 2 (by decide) R f b s hb hs
  have e1 := fun f => above_eq m c t tl ht 1 (by decide) R f b s hb hs
  have e0 := fun f => blkUp_eq m c t 0 R f b s hb hs
  have eu := fun f => blkUp_eq m c t 1 R f b s hb hs
  unfold blkOut ffnAt
  simp only [e2, e1, e0, eu, rd3 m c t, rd4 m c t, rd5 m c t, rd0 m c t]
  have eb : (⟨t.val / 2, by have := (idx t).2.2.2.2.2.2.2; omega⟩ : Fin 32) = b := Fin.ext hb.symm
  have es : (⟨1024 * (t.val % 2) + R.val, by omega⟩ : Fin 2048) = s := Fin.ext hs.symm
  rw [eb, es]
  have hz : ∀ f : Fin 2816, 2816 * (0 : Fin 2).val + f.val = f.val := fun f => by show 2816 * 0 + f.val = f.val; omega
  simp only [mUp, hz]
  rfl

/-- The result array after the run. -/
theorem final : (dats m 0 c).arrAt 6 cfg0.N = fun i : S32x2048x1024.Idx =>
    ffnAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (i 0) (i 1) (i 2) := by
  refine (dats m 0 c).arrAt_eq_of_covers 6 _ (by decide +kernel) fun t hf y => ?_
  blk_simp
  rw [after0_6]
  idx_vars y
  obtain rfl : y0 = 0 := Subsingleton.elim _ _
  have hN := (idx t).2.2.2.2.2.2.2
  refine (point m c t y1 y2 ⟨t.val / 2, by omega⟩ ⟨1024 * (t.val % 2) + y1.val, by omega⟩ rfl rfl).trans ?_
  have e : ((cfg0.win 6).blk t).view.emb (ix3 0 y1 y2) = ix3 (⟨t.val / 2, by omega⟩ : Fin 32) (⟨1024 * (t.val % 2) + y1.val, by omega⟩ : Fin 2048) y2 := by
    blk_ext [idx t]
  exact (congrArg (fun i : S32x2048x1024.Idx => ffnAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (i 0) (i 1) (i 2)) e).symm

end Cert.Proof.FfnIdeal
end
-- ==== Proof.FfnRefPure.lean ====
module
public import proofs.«01_k».proof.Proof.FfnPure
public import proofs.«01_k».proof.Proof.Gen.FfnRefIdeal.Run
public import Idealize.ShloMosaic.Lib.Pointwise

@[expose] public section
set_option maxRecDepth 16384
noncomputable section
open Idealize.ShloMosaic Idealize.ShloMosaic.TcCoe Idealize.SL.Sem
namespace Cert.Proof.FfnRefIdeal
open Cert.FfnRefIdeal Cert.FfnRefIdeal.Gen Cert.FfnRefIdeal.Value Cert.Proof.Ffn

/-- An entry of the reference's result. -/
theorem res_at (m : (ℓ : Loc nD τ sig) → Buf (Elt Ideal) ℓ) (c : Dev nD) (b : Fin 32) (s : Fin 2048) (d : Fin 1024)
    (X : FVec Ideal S32x2048x1024 .f32) (g : FVec Ideal S1024 .f32) (w : FVec Ideal S1024x5632 .f32) (cw : FVec Ideal S3x2816 .f32)
    (wd : FVec Ideal S2816x1024 .f32) (fg : FVec Ideal S1024 .f32)
    (h0 : m ((c.tc : Thread nD τ).loc main_arg0) = X) (h1 : m ((c.tc : Thread nD τ).loc main_arg1) = g) (h2 : m ((c.tc : Thread nD τ).loc main_arg2) = w)
    (h3 : m ((c.tc : Thread nD τ).loc main_arg3) = cw) (h4 : m ((c.tc : Thread nD τ).loc main_arg4) = wd) (h5 : m ((c.tc : Thread nD τ).loc main_arg5) = fg) :
    res_main_v53 (F := Ideal) m c (ix3 b s d)
      = ffnAt X g w cw wd fg b s d := by
  subst h0 h1 h2 h3 h4 h5
  unfold ffnAt
  rw [← two_eq, ← one_eq]
  pointwise [res_main_v53]
  rfl
end Cert.Proof.FfnRefIdeal
end
-- ==== Proof.FfnTie.lean ====
module
public import proofs.«01_k».proof.Defs
public import proofs.«01_k».proof.Proof.FfnFinal
public import proofs.«01_k».proof.Proof.FfnRefPure
public import proofs.«01_k».proof.Proof.Gen.FfnRefIdeal.Run
public import Idealize.ShloMosaic.Lib.Claim
public import Idealize.ShloMosaic.Adequacy

@[expose] public section
set_option maxRecDepth 16384
noncomputable section
open Idealize.ShloMosaic Idealize.ShloMosaic.TcCoe Idealize.SL.Sem
namespace Cert.Proof.FfnTie
open Cert Cert.Proof.Ffn

/-- The reference ends with its arguments unchanged and every counter zero. -/
theorem ref_quiet : quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel's and the reference's results are equal as extended reals. -/
theorem tie : algebraic_FfnIdeal_FfnRefIdeal (hFfnIdeal := Cert.FfnIdeal.Gen.facts) (hFfnRefIdeal := Cert.FfnRefIdeal.Gen.facts) := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1, Cert.Proof.FfnIdeal.final m c]
  obtain ⟨h0, h1, h2, h3, h4, h5⟩ := hagree c
  funext i
  refine Eq.trans (congrArg _ (ix3_eta i).symm) ?_
  exact Cert.Proof.FfnRefIdeal.res_at m' c (i 0) (i 1) (i 2) _ _ _ _ _ _ h0 h1 h2 h3 h4 h5
end Cert.Proof.FfnTie
end
-- ==== Proof.CrossPure.lean ====
module
public import proofs.«01_k».proof.Proof.Gen.CrossIdeal.Skeleton
public import Idealize.ShloMosaic.Lib.Pointwise

@[expose] public section
set_option maxRecDepth 16384
noncomputable section
open Idealize.ShloMosaic Idealize.ShloMosaic.TcCoe Idealize.SL.Sem

/-! The cross attention row by row, over the extended reals. -/
namespace Cert.Proof.Cross

/-- A row divided by its root mean square and multiplied by a gain. -/
def nrm (x g : Fin 1024 → EReal) (k : Fin 1024) : EReal :=
  x k * Ideal.rsqrt (Ideal.div (∑ l, x l * x l) (Ideal.ofBits FTy.f32 0x44800000#32) + Ideal.ofBits FTy.f32 0x358637BD#32) * g k

/-- One entry of a projection of a normalised row. -/
def proj (x g w : Fin 1024 → EReal) : EReal := ∑ k, nrm x g k * w k

/-- The weights of the kernel's softmax, in powers of two and not yet normalised. -/
def wt (s : Fin 256 → EReal) (l : Fin 256) : EReal := Ideal.exp2 (s l - Finset.univ.fold max (Ideal.ofBits FTy.f32 0xFF800000#32) s)

/-- One head's output entry, divided by the sum of the weights after the product with the values. -/
def att (s v : Fin 256 → EReal) : EReal := Ideal.div (∑ l, wt s l * v l) (∑ l, wt s l)

/-- The entry of four heads' outputs side by side. -/
def cat (a : Fin 4 → Fin 256 → EReal) (f : Fin 1024) : EReal :=
  if h0 : f.val < 256 then a 0 ⟨f.val, h0⟩ else if h1 : f.val - 256 < 256 then a 1 ⟨f.val - 256, h1⟩
  else if h2 : f.val - 256 - 256 < 256 then a 2 ⟨f.val - 256 - 256, h2⟩ else a 3 ⟨f.val - 256 - 256 - 256, by omega⟩

/-- The kernel's scale. -/
def scale : EReal := ((((Real.log 2)⁻¹ * (1 / 16) : ℝ)) : EReal)
end Cert.Proof.Cross

namespace Cert.Proof.CrossIdeal
open Cert.CrossIdeal Cert.CrossIdeal.Gen Cert.Proof.Cross

section
variable (x : FVec Ideal S1x256x1024 .f32) (g : FVec Ideal S1x1024 .f32) (w : FVec Ideal S1024x1024 .bf16) (k0 k1 k2 k3 v0 v1 v2 v3 : FVec Ideal S256x256 .bf16)
  (wo : FVec Ideal S1024x1024 .bf16)

/-- A group's result from its rows, the weights and the heads' keys and values. -/
def grp : FVec Ideal S1x256x1024 .f32 :=
  k0_pay100 (k0_pay87 x g w k2) (k0_pay88 x g w k3) (k0_pay96 (k0_pay85 x g w k0) v0) (k0_pay98 (k0_pay86 x g w k1) v1) (k0_pay99 (k0_pay86 x g w k1)) v2 v3 x wo

/-! The eight groups' results are the same function. -/
theorem grp7 : k0_pay100 (k0_pay87 x g w k2) (k0_pay88 x g w k3) (k0_pay96 (k0_pay85 x g w k0) v0) (k0_pay98 (k0_pay86 x g w k1) v1) (k0_pay99 (k0_pay86 x g w k1)) v2 v3 x wo
    = grp x g w k0 k1 k2 k3 v0 v1 v2 v3 wo := rfl
theorem grp6 : k0_pay95 (k0_pay90 (k0_pay77 (k0_pay75 x g w) k0) (k0_pay89 (k0_pay77 (k0_pay75 x g w) k0)) v0) (k0_pay91 (k0_pay78 (k0_pay75 x g w) k1) v1) (k0_pay92 (k0_pay79 (k0_pay75 x g w) k2) v2) (k0_pay93 (k0_pay80 (k0_pay75 x g w) k3)) (k0_pay94 (k0_pay80 (k0_pay75 x g w) k3)) v3 x wo
    = grp x g w k0 k1 k2 k3 v0 v1 v2 v3 wo := rfl
theorem grp5 : k0_pay83 (k0_pay66 (k0_pay62 x) g w k2) (k0_pay67 (k0_pay62 x) g w k3) (k0_pay81 (k0_pay64 (k0_pay62 x) g w k0) v0) (k0_pay82 (k0_pay65 (k0_pay62 x) g w k1) v1) v2 v3 x wo
    = grp x g w k0 k1 k2 k3 v0 v1 v2 v3 wo := rfl
theorem grp4 : k0_pay74 (k0_pay69 (k0_pay68 (k0_pay55 (k0_pay54 x g w) k0)) v0) (k0_pay70 (k0_pay56 (k0_pay53 x g w) k1) v1) (k0_pay71 (k0_pay57 (k0_pay53 x g w) k2) v2) (k0_pay72 (k0_pay58 (k0_pay53 x g w) k3)) (k0_pay73 (k0_pay58 (k0_pay53 x g w) k3) v3) x wo
    = grp x g w k0 k1 k2 k3 v0 v1 v2 v3 wo := rfl
theorem grp3 : k0_pay61 (k0_pay42 (k0_pay37 x) (k0_pay38 x) g w k2) (k0_pay43 (k0_pay37 x) (k0_pay38 x) g w k3) (k0_pay59 (k0_pay40 (k0_pay37 x) (k0_pay38 x) g w k0) v0) (k0_pay60 (k0_pay41 (k0_pay37 x) (k0_pay38 x) g w k1) v1) v2 v3 x wo
    = grp x g w k0 k1 k2 k3 v0 v1 v2 v3 wo := rfl
theorem grp2 : k0_pay52 (k0_pay46 (k0_pay44 (k0_pay29 (k0_pay28 x g w) k0)) (k0_pay45 (k0_pay29 (k0_pay28 x g w) k0)) v0) (k0_pay47 (k0_pay30 (k0_pay27 x g w) k1) v1) (k0_pay48 (k0_pay31 (k0_pay27 x g w) k2) v2) (k0_pay50 (k0_pay32 (k0_pay27 x g w) k3) v3) (k0_pay51 (k0_pay32 (k0_pay27 x g w) k3)) x wo
    = grp x g w k0 k1 k2 k3 v0 v1 v2 v3 wo := rfl
theorem grp1 : k0_pay36 (k0_pay16 (k0_pay11 x) (k0_pay12 x) g w k2) (k0_pay17 (k0_pay11 x) (k0_pay12 x) g w k3) (k0_pay33 (k0_pay14 (k0_pay11 x) (k0_pay12 x) g w k0) v0) (k0_pay34 (k0_pay15 (k0_pay11 x) (k0_pay12 x) g w k1) v1) (k0_pay35 (k0_pay16 (k0_pay11 x) (k0_pay12 x) g w k2)) v2 v3 x wo
    = grp x g w k0 k1 k2 k3 v0 v1 v2 v3 wo := rfl
theorem grp0 : k0_pay26 (k0_pay20 (k0_pay18 (k0_pay7 (k0_pay4 x) (k0_pay5 x) g w k0)) (k0_pay19 (k0_pay7 (k0_pay4 x) (k0_pay5 x) g w k0)) v0) (k0_pay21 (k0_pay8 (k0_pay4 x) (k0_pay5 x) g w k1) v1) (k0_pay22 (k0_pay9 (k0_pay4 x) (k0_pay5 x) g w k2) v2) (k0_pay24 (k0_pay10 (k0_pay4 x) (k0_pay5 x) g w k3) v3) (k0_pay25 (k0_pay10 (k0_pay4 x) (k0_pay5 x) g w k3)) x wo
    = grp x g w k0 k1 k2 k3 v0 v1 v2 v3 wo := rfl
end

section
variable (x : FVec Ideal S1x256x1024 .f32) (g : FVec Ideal S1x1024 .f32) (w : FVec Ideal S1024x1024 .bf16) (k : FVec Ideal S256x256 .bf16) (r l : Fin 256)

/-- A score of a head: the row's scaled projection against a key. -/
abbrev scAt (h : Fin 4) : EReal :=
  ∑ e : Fin 256, proj (fun i => x (ix3 0 r i)) (fun i => g (ix2 0 i)) (fun i => w (ix2 i ⟨256 * h.val + e.val, by omega⟩)) * scale * k (ix2 l e)

theorem named : (Named.named (F := Ideal) κ "log2e_over_16" (φ := .f32) 0x3DB8AA3B#32) = scale :=
  IdealRules.named_const.ideal_named_scalar _ _ _ _ rfl

theorem sc0 : k0_pay85 (F := Ideal) x g w k (ix2 r l) = scAt x g w k r l 0 := by
  pointwise [k0_pay85, k0_pay84, named]
  have hz : ∀ e : Fin 256, 256 * (0 : Fin 4).val + e.val = e.val := fun e => by show 256 * 0 + e.val = e.val; omega
  unfold scAt
  simp only [hz]
  rfl
theorem sc1 : k0_pay86 (F := Ideal) x g w k (ix2 r l) = scAt x g w k r l 1 := by
  pointwise [k0_pay86, k0_pay84, named]; rfl
theorem sc2 : k0_pay87 (F := Ideal) x g w k (ix2 r l) = scAt x g w k r l 2 := by
  pointwise [k0_pay87, k0_pay84, named]; rfl
theorem sc3 : k0_pay88 (F := Ideal) x g w k (ix2 r l) = scAt x g w k r l 3 := by
  pointwise [k0_pay88, k0_pay84, named]; rfl
end

section
variable (y : FVec Ideal S1x256x1024 .f32) (gm : FVec Ideal S1x1024 .f32) (wk : FVec Ideal S1024x1024 .bf16) (l : Fin 256) (f : Fin 1024)
/-- The keys, and the values: projections of the memory's normalised rows. -/
theorem key_at : k0_pay2 (F := Ideal) y gm wk (ix2 l f) = proj (fun i => y (ix3 0 l i)) (fun i => gm (ix2 0 i)) (fun i => wk (ix2 i f)) := by
  pointwise [k0_pay2, k0_pay1]; rfl
theorem val_at : k0_pay3 (F := Ideal) y gm wk (ix2 l f) = proj (fun i => y (ix3 0 l i)) (fun i => gm (ix2 0 i)) (fun i => wk (ix2 i f)) := by
  pointwise [k0_pay3, k0_pay1]; rfl
end

section
variable (s2 s3 : FVec Ideal S256x256 .f32) (s0 s1 : FVec Ideal S256x256 .f32) (v0 v1 v2 v3 : FVec Ideal S256x256 .bf16) (x : FVec Ideal S1x256x1024 .f32)
  (wo : FVec Ideal S1024x1024 .bf16) (r : Fin 256) (d : Fin 1024)
theorem out_at : k0_pay100 s2 s3 (k0_pay96 s0 v0) (k0_pay98 s1 v1) (k0_pay99 s1) v2 v3 x wo (ix3 0 r d)
    = x (ix3 0 r d) + ∑ f : Fin 1024, cat (fun h e => att (fun l => (![s0, s1, s2, s3] h) (ix2 r l)) (fun l => (![v0, v1, v2, v3] h) (ix2 l e))) f * wo (ix2 f d) := by
  pointwise [k0_pay100, k0_pay96, k0_pay97, k0_pay98, k0_pay99]
  rfl

/-- An entry of a group's result. -/
theorem grp_at (g : FVec Ideal S1x1024 .f32) (w : FVec Ideal S1024x1024 .bf16) (k0 k1 k2 k3 : FVec Ideal S256x256 .bf16) :
    grp x g w k0 k1 k2 k3 v0 v1 v2 v3 wo (ix3 0 r d) = x (ix3 0 r d)
      + ∑ f : Fin 1024, cat (fun h e => att (fun l => scAt x g w (![k0, k1, k2, k3] h) r l h) (fun l => (![v0, v1, v2, v3] h) (ix2 l e))) f * wo (ix2 f d) := by
  refine (out_at _ _ _ _ v0 v1 v2 v3 x wo r d).trans ?_
  refine congrArg (fun z : EReal => x (ix3 0 r d) + z) (Finset.sum_congr rfl fun f _ => ?_)
  refine congrArg (fun a : Fin 4 → Fin 256 → EReal => cat a f * wo (ix2 f d)) (funext fun h => funext fun e => ?_)
  refine congrArg (fun a : Fin 256 → EReal => att a (fun l => (![v0, v1, v2, v3] h) (ix2 l e))) (funext fun l => ?_)
  match h with
  | 0 => exact sc0 x g w k0 r l
  | 1 => exact sc1 x g w k1 r l
  | 2 => exact sc2 x g w k2 r l
  | 3 => exact sc3 x g w k3 r l
end
end Cert.Proof.CrossIdeal
end
-- ==== Proof.CrossValue.lean ====
module
public import proofs.«01_k».proof.Proof.CrossPure
public import proofs.«01_k».proof.Proof.Gen.CrossIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.Proof.CrossIdeal
open Cert.CrossIdeal Cert.CrossIdeal.Gen Cert.Proof.Cross

variable (m : (ℓ : Loc nD τ sig) → Buf (Elt Ideal) ℓ) (c : Dev nD)

section
variable (X : Vec Ideal S1x2048x1024 .f32) (M : Vec Ideal S1x256x1024 .f32) (g gm : FVec Ideal S1x1024 .f32) (w : FVec Ideal S1024x1024 .bf16) (wkv : Vec Ideal S1024x2048 .bf16)
  (wo : FVec Ideal S1024x1024 .bf16)

/-- A block's keys and values side by side: projections of the memory's normalised rows. -/
abbrev blkKv (l : Fin 256) (f : Fin 2048) : EReal := proj (fun i => M (ix3 0 l i)) (fun i => gm (ix2 0 i)) (fun i => wkv (ix2 i f))

/-- An entry of a block's result: of row `R`, at feature `d`. -/
def blkOut (R : Fin 2048) (d : Fin 1024) : EReal :=
  X (ix3 0 R d) + ∑ f : Fin 1024, cat (fun h e =>
    att (fun l => ∑ e' : Fin 256, proj (fun i => X (ix3 0 R i)) (fun i => g (ix2 0 i)) (fun i => w (ix2 i ⟨256 * h.val + e'.val, by omega⟩)) * scale
        * blkKv M gm wkv l ⟨256 * h.val + e'.val, by omega⟩)
      (fun l => blkKv M gm wkv l ⟨1024 + (256 * h.val + e.val), by omega⟩)) f * wo (ix2 f d)

/-- A group's result is the block's. -/
theorem core (x : FVec Ideal S1x256x1024 .f32) (K V : FVec Ideal S256x1024 .bf16) (k v : Fin 4 → FVec Ideal S256x256 .bf16) (o : ℕ) (ho : o + 256 ≤ 2048)
    (hx : ∀ (r : Fin 256) (i : Fin 1024), x (ix3 0 r i) = X (ix3 0 ⟨o + r.val, by omega⟩ i))
    (hk : ∀ (h : Fin 4) (l e : Fin 256), k h (ix2 l e) = K (ix2 l ⟨256 * h.val + e.val, by omega⟩))
    (hv : ∀ (h : Fin 4) (l e : Fin 256), v h (ix2 l e) = V (ix2 l ⟨256 * h.val + e.val, by omega⟩))
    (hK : ∀ (l : Fin 256) (f : Fin 1024), K (ix2 l f) = blkKv M gm wkv l ⟨f.val, by omega⟩)
    (hV : ∀ (l : Fin 256) (f : Fin 1024), V (ix2 l f) = blkKv M gm wkv l ⟨1024 + f.val, by omega⟩)
    (r : Fin 256) (d : Fin 1024) (R : Fin 2048) (hR : R.val = o + r.val) :
    grp x g w (k 0) (k 1) (k 2) (k 3) (v 0) (v 1) (v 2) (v 3) wo (ix3 0 r d) = blkOut X M g gm w wkv wo R d := by
  obtain ⟨R, hR'⟩ := R
  subst hR
  have hk' : ∀ h : Fin 4, ![k 0, k 1, k 2, k 3] h = k h := fun h => match h with | 0 => rfl | 1 => rfl | 2 => rfl | 3 => rfl
  have hv' : ∀ h : Fin 4, ![v 0, v 1, v 2, v 3] h = v h := fun h => match h with | 0 => rfl | 1 => rfl | 2 => rfl | 3 => rfl
  refine (grp_at _ _ _ _ x wo r d g w _ _ _ _).trans ?_
  unfold blkOut
  simp only [hk', hv', scAt, hx, hk, hv, hK, hV]
end

/-- The heads' columns of a buffer. -/
abbrev head0 : Rect S256x1024 := Rect.unit ![0, 0] ![256, 256] inb_S256x1024_S256x256_0_0
abbrev head1 : Rect S256x1024 := Rect.unit ![0, 256] ![256, 256] inb_S256x1024_S256x256_0_256
abbrev head2 : Rect S256x1024 := Rect.unit ![0, 512] ![256, 256] inb_S256x1024_S256x256_0_512
abbrev head3 : Rect S256x1024 := Rect.unit ![0, 768] ![256, 256] inb_S256x1024_S256x256_0_768

section
variable {sp : Space} (v : View sig .tc sp S256x1024 .bf16) (P : Vec Ideal S256x1024 .bf16)

/-- A head's columns, read back from a buffer that one store filled. -/
abbrev cols (r : Rect S256x1024) : r.shape.Idx → Elt Ideal .bf16 := v.readCov [⟨Rect.unit ![0, 0] ![256, 1024] inb_S256x1024_S256x1024_0_0, P⟩] r.toLoadRect
abbrev cols0 : Vec Ideal S256x256 .bf16 := cols v P head0
abbrev cols1 : Vec Ideal S256x256 .bf16 := cols v P head1
abbrev cols2 : Vec Ideal S256x256 .bf16 := cols v P head2
abbrev cols3 : Vec Ideal S256x256 .bf16 := cols v P head3

theorem cols_ld (r : Rect S256x1024) : cols v P r = View.ld P r :=
  View.readCov_fill v inb_S256x1024_S256x1024_0_0 P [] r (Fin.forall_fin_two.2 ⟨rfl, rfl⟩)

theorem cols_at (h : Fin 4) (l e : Fin 256) : (![cols0 v P, cols1 v P, cols2 v P, cols3 v P] h) (ix2 l e) = P (ix2 l ⟨256 * h.val + e.val, by omega⟩) :=
  match h with
  | 0 => (congrFun (cols_ld v P head0) (ix2 l e)).trans
      (View.ld_unit_apply_of _ _ _ _ _ _ (Fin.forall_fin_two.2 ⟨(Nat.zero_add l.val).symm, by show 256 * 0 + e.val = 0 + e.val; omega⟩))
  | 1 => (congrFun (cols_ld v P head1) (ix2 l e)).trans
      (View.ld_unit_apply_of _ _ _ _ _ _ (Fin.forall_fin_two.2 ⟨(Nat.zero_add l.val).symm, rfl⟩))
  | 2 => (congrFun (cols_ld v P head2) (ix2 l e)).trans
      (View.ld_unit_apply_of _ _ _ _ _ _ (Fin.forall_fin_two.2 ⟨(Nat.zero_add l.val).symm, rfl⟩))
  | 3 => (congrFun (cols_ld v P head3) (ix2 l e)).trans
      (View.ld_unit_apply_of _ _ _ _ _ _ (Fin.forall_fin_two.2 ⟨(Nat.zero_add l.val).symm, rfl⟩))
end

section
variable (W : Vec Ideal S1024x2048 .bf16)
theorem ldk (k f : Fin 1024) : (View.ld W (Rect.unit ![0, 0] ![1024, 1024] inb_S1024x2048_S1024x1024_0_0) : Vec Ideal S1024x1024 .bf16) (ix2 k f) = W (ix2 k ⟨f.val, by omega⟩) :=
  View.ld_unit_apply_of _ _ _ _ _ _ (Fin.forall_fin_two.2 ⟨(Nat.zero_add k.val).symm, (Nat.zero_add f.val).symm⟩)
theorem ldv (k f : Fin 1024) : (View.ld W (Rect.unit ![0, 1024] ![1024, 1024] inb_S1024x2048_S1024x1024_0_1024) : Vec Ideal S1024x1024 .bf16) (ix2 k f) = W (ix2 k ⟨1024 + f.val, by omega⟩) :=
  View.ld_unit_apply_of _ _ _ _ _ _ (Fin.forall_fin_two.2 ⟨(Nat.zero_add k.val).symm, rfl⟩)
end

theorem ldx (X : Vec Ideal S1x2048x1024 .f32) (o : ℕ) (ho : o + 256 ≤ 2048) (inb : ∀ a, (![0, o, 0] : Fin 3 → ℕ) a + (![1, 256, 1024] : Fin 3 → ℕ) a ≤ S1x2048x1024.size a) (r : Fin 256) (k : Fin 1024) :
    (View.ld X (Rect.unit ![0, o, 0] ![1, 256, 1024] inb) : Vec Ideal S1x256x1024 .f32) (ix3 0 r k) = X (ix3 0 ⟨o + r.val, by omega⟩ k) :=
  View.ld_unit_apply_of _ _ _ _ _ _ (fun a => match a with | ⟨0, _⟩ => rfl | ⟨1, _⟩ => rfl | ⟨2, _⟩ => (Nat.zero_add k.val).symm)

section
variable (X : Vec Ideal S1x2048x1024 .f32) (M : Vec Ideal S1x256x1024 .f32) (g gm : FVec Ideal S1x1024 .f32) (w : FVec Ideal S1024x1024 .bf16) (wkv : Vec Ideal S1024x2048 .bf16)
  (wo : FVec Ideal S1024x1024 .bf16) {sp sp' : Space} (kv : View sig .tc sp S256x1024 .bf16) (vv : View sig .tc sp' S256x1024 .bf16)

/-- The block's keys, and its values, as the body stores them. -/
abbrev keyBuf : FVec Ideal S256x1024 .bf16 := k0_pay2 (F := Ideal) M gm (View.ld wkv (Rect.unit ![0, 0] ![1024, 1024] inb_S1024x2048_S1024x1024_0_0))
abbrev valBuf : FVec Ideal S256x1024 .bf16 := k0_pay3 (F := Ideal) M gm (View.ld wkv (Rect.unit ![0, 1024] ![1024, 1024] inb_S1024x2048_S1024x1024_0_1024))

/-- A group's result, with the heads' keys and values read back from the buffers. -/
theorem group (o : ℕ) (ho : o + 256 ≤ 2048) (inb : ∀ a, (![0, o, 0] : Fin 3 → ℕ) a + (![1, 256, 1024] : Fin 3 → ℕ) a ≤ S1x2048x1024.size a)
    (r : Fin 256) (d : Fin 1024) (R : Fin 2048) (hR : R.val = o + r.val) :
    grp (View.ld X (Rect.unit ![0, o, 0] ![1, 256, 1024] inb)) g w (cols0 kv (keyBuf M gm wkv)) (cols1 kv (keyBuf M gm wkv)) (cols2 kv (keyBuf M gm wkv)) (cols3 kv (keyBuf M gm wkv))
      (cols0 vv (valBuf M gm wkv)) (cols1 vv (valBuf M gm wkv)) (cols2 vv (valBuf M gm wkv)) (cols3 vv (valBuf M gm wkv)) wo (ix3 0 r d)
      = blkOut X M g gm w wkv wo R d :=
  core X M g gm w wkv wo _ (keyBuf M gm wkv) (valBuf M gm wkv) ![cols0 kv (keyBuf M gm wkv), cols1 kv (keyBuf M gm wkv), cols2 kv (keyBuf M gm wkv), cols3 kv (keyBuf M gm wkv)] ![cols0 vv (valBuf M gm wkv), cols1 vv (valBuf M gm wkv), cols2 vv (valBuf M gm wkv), cols3 vv (valBuf M gm wkv)] o ho (ldx X o ho inb) (cols_at kv _) (cols_at vv _)
    (fun l f => (key_at M gm _ l f).trans (congrArg (proj _ _) (funext fun i => ldk wkv i f)))
    (fun l f => (val_at M gm _ l f).trans (congrArg (proj _ _) (funext fun i => ldv wkv i f))) r d R hR
end

/-- What the body leaves in the output's block. -/
theorem block_point (t : Fin cfg0.N) (R : Fin 2048) (d : Fin 1024) :
    (outsAt0 m c t : Vec Ideal S1x2048x1024 .f32) (ix3 0 R d)
      = blkOut (iblk m c 0 t) (iblk m c 1 t) (iblk m c 2 t) (iblk m c 3 t) (iblk m c 4 t) (iblk m c 5 t) (iblk m c 6 t) R d := by
  have G := group (iblk m c 0 t) (iblk m c 1 t) (iblk m c 2 t) (iblk m c 3 t) (iblk m c 4 t) (iblk m c 5 t) (iblk m c 6 t) (View.whole cc0_scratch0) (View.whole cc0_scratch1)
  unfold outsAt0; frame_out
  canon_tiles x hh
  · idx_vars x
    obtain rfl : x0 = 0 := Subsingleton.elim _ _
    obtain rfl : d = x2 := Fin.ext hh2
    exact (congrFun (grp7 _ _ _ _ _ _ _ _ _ _ _ _) _).trans (G 1792 (by decide) _ x1 d R hh1)
  · idx_vars x
    obtain rfl : x0 = 0 := Subsingleton.elim _ _
    obtain rfl : d = x2 := Fin.ext hh2
    exact (congrFun (grp6 _ _ _ _ _ _ _ _ _ _ _ _) _).trans (G 1536 (by decide) _ x1 d R hh1)
  · idx_vars x
    obtain rfl : x0 = 0 := Subsingleton.elim _ _
    obtain rfl : d = x2 := Fin.ext hh2
    exact (congrFun (grp5 _ _ _ _ _ _ _ _ _ _ _ _) _).trans (G 1280 (by decide) _ x1 d R hh1)
  · idx_vars x
    obtain rfl : x0 = 0 := Subsingleton.elim _ _
    obtain rfl : d = x2 := Fin.ext hh2
    exact (congrFun (grp4 _ _ _ _ _ _ _ _ _ _ _ _) _).trans (G 1024 (by decide) _ x1 d R hh1)
  · idx_vars x
    obtain rfl : x0 = 0 := Subsingleton.elim _ _
    obtain rfl : d = x2 := Fin.ext hh2
    exact (congrFun (grp3 _ _ _ _ _ _ _ _ _ _ _ _) _).trans (G 768 (by decide) _ x1 d R hh1)
  · idx_vars x
    obtain rfl : x0 = 0 := Subsingleton.elim _ _
    obtain rfl : d = x2 := Fin.ext hh2
    exact (congrFun (grp2 _ _ _ _ _ _ _ _ _ _ _ _) _).trans (G 512 (by decide) _ x1 d R hh1)
  · idx_vars x
    obtain rfl : x0 = 0 := Subsingleton.elim _ _
    obtain rfl : d = x2 := Fin.ext hh2
    exact (congrFun (grp1 _ _ _ _ _ _ _ _ _ _ _ _) _).trans (G 256 (by decide) _ x1 d R hh1)
  · idx_vars x
    obtain rfl : x0 = 0 := Subsingleton.elim _ _
    obtain rfl : d = x2 := Fin.ext hh2
    exact (congrFun (grp0 _ _ _ _ _ _ _ _ _ _ _ _) _).trans (G 0 (by decide) _ x1 d R (hh1.trans (Nat.zero_add _).symm))

/-- The windows' index maps. -/
theorem idx : ∀ t : Fin cfg0.N, win0_0.index t = ![t.val, 0, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] ∧ t.val < 32 :=
  (by decide +kernel : ∀ t : Fin grid0.N, win0_0.index t = ![t.val, 0, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] ∧ t.val < 32)
/-- A point's number as a sequence's. -/
abbrev seq (t : Fin cfg0.N) : Fin 32 := ⟨t.val, (idx t).2.2.2.2.2.2.2.2⟩

theorem rd0 (t : Fin cfg0.N) (R : Fin 2048) (k : Fin 1024) : (iblk m c 0 t : Vec Ideal S1x2048x1024 .f32) (ix3 0 R k)
    = (m ((c.tc : Thread nD τ).loc main_arg0) : Vec Ideal S32x2048x1024 .f32) (ix3 (seq t) R k) := by
  blk_point [iblk, V, idx t]
theorem rd1 (t : Fin cfg0.N) (R : Fin 256) (k : Fin 1024) : (iblk m c 1 t : Vec Ideal S1x256x1024 .f32) (ix3 0 R k)
    = (m ((c.tc : Thread nD τ).loc main_arg1) : Vec Ideal S32x256x1024 .f32) (ix3 (seq t) R k) := by
  blk_point [iblk, V, idx t]
theorem rd2 (t : Fin cfg0.N) (k : Fin 1024) : (iblk m c 2 t : Vec Ideal S1x1024 .f32) (ix2 0 k)
    = (m ((c.tc : Thread nD τ).loc main_arg2) : Vec Ideal S1024 .f32) (ix1 k) := by
  blk_point [iblk, V, idx t]
theorem rd3 (t : Fin cfg0.N) (k : Fin 1024) : (iblk m c 3 t : Vec Ideal S1x1024 .f32) (ix2 0 k)
    = (m ((c.tc : Thread nD τ).loc main_arg3) : Vec Ideal S1024 .f32) (ix1 k) := by
  blk_point [iblk, V, idx t]
theorem rd4 (t : Fin cfg0.N) (k f : Fin 1024) : (iblk m c 4 t : Vec Ideal S1024x1024 .bf16) (ix2 k f)
    = (m ((c.tc : Thread nD τ).loc main_arg4) : Vec Ideal S1024x1024 .f32) (ix2 k f) := by
  blk_point [iblk, V, idx t]
theorem rd5 (t : Fin cfg0.N) (k : Fin 1024) (f : Fin 2048) : (iblk m c 5 t : Vec Ideal S1024x2048 .bf16) (ix2 k f)
    = (m ((c.tc : Thread nD τ).loc main_arg5) : Vec Ideal S1024x2048 .f32) (ix2 k f) := by
  blk_point [iblk, V, idx t]
theorem rd6 (t : Fin cfg0.N) (k f : Fin 1024) : (iblk m c 6 t : Vec Ideal S1024x1024 .bf16) (ix2 k f)
    = (m ((c.tc : Thread nD τ).loc main_arg6) : Vec Ideal S1024x1024 .f32) (ix2 k f) := by
  blk_point [iblk, V, idx t]
end Cert.Proof.CrossIdeal
end
-- ==== Proof.CrossMath.lean ====
module
public import proofs.«01_k».proof.Proof.CrossPure

@[expose] public section
set_option maxRecDepth 16384
noncomputable section
open Idealize.ShloMosaic

/-! The two forms of the softmax agree where the scores are finite. -/
namespace Cert.Proof.Cross

/-- An extended real that is a real. -/
def IsR (a : EReal) : Prop := ∃ r : ℝ, a = (r : EReal)

theorem IsR.add {a b : EReal} : IsR a → IsR b → IsR (a + b)
  | ⟨r, hr⟩, ⟨s, hs⟩ => ⟨r + s, by rw [hr, hs, EReal.coe_add]⟩
theorem IsR.mul {a b : EReal} : IsR a → IsR b → IsR (a * b)
  | ⟨r, hr⟩, ⟨s, hs⟩ => ⟨r * s, by rw [hr, hs, EReal.coe_mul]⟩
theorem coe_sum {ι : Type} (t : Finset ι) (f : ι → ℝ) : ((∑ i ∈ t, f i : ℝ) : EReal) = ∑ i ∈ t, (f i : EReal) := by
  classical
  induction t using Finset.induction_on with
  | empty => simp
  | insert a u ha ih => rw [Finset.sum_insert ha, Finset.sum_insert ha, EReal.coe_add, ih]
theorem IsR.sum {ι : Type} {t : Finset ι} {f : ι → EReal} (h : ∀ i, IsR (f i)) : IsR (∑ i ∈ t, f i) := by
  choose r hr using h
  exact ⟨∑ i ∈ t, r i, by rw [coe_sum]; exact Finset.sum_congr rfl fun i _ => hr i⟩

theorem thousand : Ideal.ofBits FTy.f32 0x44800000#32 = ((1024 : ℝ) : EReal) := by
  simp [Ideal.ofBits, Ideal.ieee, -EReal.coe_mul]; norm_num
theorem tiny : ∃ e : ℝ, 0 < e ∧ Ideal.ofBits FTy.f32 0x358637BD#32 = (e : EReal) := by
  refine ⟨8796093 * 2 ^ (-43 : ℤ), by positivity, ?_⟩
  simp [Ideal.ofBits, Ideal.ieee, -EReal.coe_mul]
theorem sixteenth : Ideal.ofBits FTy.f32 0x3D800000#32 = ((1 / 16 : ℝ) : EReal) := by
  simp [Ideal.ofBits, Ideal.ieee, -EReal.coe_mul]; norm_num
theorem bottom : Ideal.ofBits FTy.f32 0xFF800000#32 = ⊥ := by
  simp [Ideal.ofBits, Ideal.ieee]

/-- An extended real that is not a real has square plus infinity. -/
theorem sq_top {a : EReal} (h : ¬ IsR a) : a * a = ⊤ := by
  induction a with
  | bot => exact EReal.bot_mul_bot
  | top => exact EReal.top_mul_top
  | coe r => exact absurd ⟨r, rfl⟩ h

/-- A row divided by its root mean square is a row of reals: of a row with an infinite entry every quotient is zero. -/
theorem IsR.quot (x : Fin 1024 → EReal) (k : Fin 1024) :
    IsR (x k * Ideal.rsqrt (Ideal.div (∑ l, x l * x l) (Ideal.ofBits FTy.f32 0x44800000#32) + Ideal.ofBits FTy.f32 0x358637BD#32)) := by
  obtain ⟨e, he, h⟩ := tiny
  rw [h, thousand, Ideal.div_coe (by norm_num)]
  by_cases hx : ∀ l, IsR (x l)
  · refine (hx k).mul ?_
    choose r hr using hx
    have hs : ∑ l, x l * x l = ((∑ l, r l * r l : ℝ) : EReal) := by
      rw [coe_sum]
      exact Finset.sum_congr rfl fun i _ => by rw [hr, EReal.coe_mul]
    have hp : 0 ≤ ∑ l, r l * r l := Finset.sum_nonneg fun i _ => mul_self_nonneg _
    rw [hs, ← EReal.coe_mul, ← EReal.coe_add]
    have hq : 0 < (∑ l, r l * r l) * (1 / 1024) + e := by positivity
    exact ⟨_, (if_neg hq.not_gt).trans (if_neg hq.ne')⟩
  · obtain ⟨j, hj⟩ := not_forall.1 hx
    have hn : ∀ l, 0 ≤ x l * x l := fun l => by
      by_cases hl : IsR (x l)
      · obtain ⟨r, hr⟩ := hl
        rw [hr, ← EReal.coe_mul]
        exact EReal.coe_nonneg.2 (mul_self_nonneg r)
      · rw [sq_top hl]
        exact le_top
    have hs : ∑ l, x l * x l = ⊤ :=
      top_le_iff.1 ((sq_top hj).symm.le.trans (Finset.single_le_sum (f := fun l => x l * x l) (fun l _ => hn l) (Finset.mem_univ j)))
    rw [hs, EReal.top_mul_coe_of_pos (by norm_num), EReal.top_add_coe]
    exact ⟨0, mul_zero (x k)⟩

/-- A normalised row of real gains is a row of reals. -/
theorem IsR.nrm {x g : Fin 1024 → EReal} (hg : ∀ k, IsR (g k)) (k : Fin 1024) : IsR (nrm x g k) := (IsR.quot x k).mul (hg k)

theorem IsR.proj {x g w : Fin 1024 → EReal} (hg : ∀ k, IsR (g k)) (hw : ∀ k, IsR (w k)) : IsR (proj x g w) :=
  IsR.sum fun k => (IsR.nrm hg k).mul (hw k)

/-- The largest entry of a finite family is its fold by the maximum. -/
theorem fold_max_eq {f : Fin 256 → EReal} (l0 : Fin 256) (h : ∀ l, f l ≤ f l0) : Finset.univ.fold max (⊥ : EReal) f = f l0 := by
  refine le_antisymm ?_ ?_
  · exact (Finset.fold_max_le _).2 ⟨bot_le, fun l _ => h l⟩
  · exact (Finset.le_fold_max _).2 (.inr ⟨l0, Finset.mem_univ _, le_rfl⟩)

/-- The reference's weights: powers of e of the scaled scores, each divided by the sum. -/
def refWt (s : Fin 256 → EReal) (l : Fin 256) : EReal :=
  Ideal.exp (s l * Ideal.ofBits FTy.f32 0x3D800000#32
    - max (Ideal.ofBits FTy.f32 0xFF800000#32) (Finset.univ.fold max (Ideal.ofBits FTy.f32 0xFF800000#32) fun l => s l * Ideal.ofBits FTy.f32 0x3D800000#32))

/-- The reference's head output: the normalised weights against the values. -/
def refAtt (s v : Fin 256 → EReal) : EReal := ∑ l, v l * Ideal.div (refWt s l) (∑ l, refWt s l)

/-- A weighted sum divided by a positive real, term by term. -/
theorem sum_div_real {ι : Type} (t : Finset ι) (c : ℝ) (hc : 0 ≤ c) (f : ι → EReal) : (∑ i ∈ t, f i) * (c : EReal) = ∑ i ∈ t, f i * (c : EReal) := by
  classical
  induction t using Finset.induction_on with
  | empty => simp
  | insert a u ha ih => rw [Finset.sum_insert ha, Finset.sum_insert ha, EReal.right_distrib_of_nonneg_of_ne_top (by exact_mod_cast hc) (EReal.coe_ne_top _), ih]

/-- The kernel's form of the softmax is the reference's where the scores are reals. -/
theorem att_eq (s v : Fin 256 → EReal) (hs : ∀ l, IsR (s l)) : att (fun l => s l * scale) v = refAtt s v := by
  choose r hr using hs
  obtain rfl : s = fun l => ((r l : ℝ) : EReal) := funext hr
  have hlog : (0 : ℝ) < Real.log 2 := Real.log_pos (by norm_num)
  obtain ⟨l0, -, h0⟩ := Finset.exists_max_image Finset.univ r ⟨0, Finset.mem_univ _⟩
  have hk : ∀ l, wt (fun l => ((r l : ℝ) : EReal) * scale) l = ((Real.exp ((r l - r l0) / 16) : ℝ) : EReal) := by
    intro l
    unfold wt scale
    rw [bottom, fold_max_eq l0 fun l => by
      rw [← EReal.coe_mul, ← EReal.coe_mul, EReal.coe_le_coe_iff]
      exact mul_le_mul_of_nonneg_right (h0 l (Finset.mem_univ _)) (by positivity)]
    show Ideal.exp2 ((r l : EReal) * _ - (r l0 : EReal) * _) = _
    rw [← EReal.coe_mul, ← EReal.coe_mul, ← EReal.coe_sub]
    show ((Real.rpow 2 _ : ℝ) : EReal) = _
    congr 1
    refine (Real.rpow_def_of_pos (by norm_num) _).trans (congrArg Real.exp ?_)
    field_simp
  have hf : ∀ l, refWt (fun l => ((r l : ℝ) : EReal)) l = ((Real.exp ((r l - r l0) / 16) : ℝ) : EReal) := by
    intro l
    unfold refWt
    rw [bottom, sixteenth, fold_max_eq l0 fun l => by
      rw [← EReal.coe_mul, ← EReal.coe_mul, EReal.coe_le_coe_iff]
      exact mul_le_mul_of_nonneg_right (h0 l (Finset.mem_univ _)) (by positivity)]
    rw [max_eq_right bot_le, ← EReal.coe_mul, ← EReal.coe_mul, ← EReal.coe_sub]
    show ((Real.exp _ : ℝ) : EReal) = _
    congr 2
    ring
  unfold att refAtt
  simp only [hk, hf]
  rw [← coe_sum]
  have hp : (0 : ℝ) < ∑ l : Fin 256, Real.exp ((r l - r l0) / 16) := Finset.sum_pos (fun l _ => Real.exp_pos _) ⟨0, Finset.mem_univ _⟩
  simp only [Ideal.div_coe hp.ne']
  rw [sum_div_real _ _ (by positivity)]
  exact Finset.sum_congr rfl fun l _ => by rw [mul_comm _ (v l), mul_assoc]

/-- The entry of four heads' outputs at a feature: of the head and the entry the feature names. -/
theorem cat_eq (a : Fin 4 → Fin 256 → EReal) (f : Fin 1024) : cat a f = a ⟨f.val / 256, by omega⟩ ⟨f.val % 256, by omega⟩ := by
  have key : ∀ (h : Fin 4) (e : Fin 256), f.val = 256 * h.val + e.val → a h e = a ⟨f.val / 256, by omega⟩ ⟨f.val % 256, by omega⟩ := by
    intro h e hf
    have e1 : (⟨f.val / 256, by omega⟩ : Fin 4) = h := Fin.ext (by show f.val / 256 = h.val; omega)
    have e2 : (⟨f.val % 256, by omega⟩ : Fin 256) = e := Fin.ext (by show f.val % 256 = e.val; omega)
    rw [e1, e2]
  unfold cat
  split
  · exact key 0 _ (by show f.val = 256 * 0 + f.val; omega)
  split
  · exact key 1 _ (by show f.val = 256 * 1 + (f.val - 256); omega)
  split
  · exact key 2 _ (by show f.val = 256 * 2 + (f.val - 256 - 256); omega)
  · exact key 3 _ (by show f.val = 256 * 3 + (f.val - 256 - 256 - 256); omega)

open Cert.CrossIdeal in
/-- An entry of the cross attention: of sequence `b` at row `s` and feature `d`. -/
def crossAt (X : FVec Ideal S32x2048x1024 .f32) (M : FVec Ideal S32x256x1024 .f32) (g gm : FVec Ideal S1024 .f32) (wq : FVec Ideal S1024x1024 .f32)
    (wkv : FVec Ideal S1024x2048 .f32) (wo : FVec Ideal S1024x1024 .f32) (b : Fin 32) (s : Fin 2048) (d : Fin 1024) : EReal :=
  X (ix3 b s d) + ∑ f : Fin 1024,
    refAtt (fun l => ∑ e : Fin 256, proj (fun i => X (ix3 b s i)) (fun i => g (ix1 i)) (fun i => wq (ix2 i ⟨f.val / 256 * 256 + e.val, by omega⟩))
        * proj (fun i => M (ix3 b l i)) (fun i => gm (ix1 i)) (fun i => wkv (ix2 i ⟨f.val / 256 * 256 + e.val, by omega⟩)))
      (fun l => proj (fun i => M (ix3 b l i)) (fun i => gm (ix1 i)) (fun i => wkv (ix2 i ⟨1024 + f.val, by omega⟩))) * wo (ix2 f d)
end Cert.Proof.Cross
end
-- ==== Proof.CrossFinal.lean ====
module
public import proofs.«01_k».proof.Proof.CrossValue
public import proofs.«01_k».proof.Proof.CrossMath

@[expose] public section
set_option maxRecDepth 16384
noncomputable section
open Idealize.ShloMosaic Idealize.ShloMosaic.TcCoe Idealize.SL.Sem
open Idealize.ShloMosaic.Pipeline (Dat)
namespace Cert.Proof.CrossIdeal
open Cert.CrossIdeal Cert.CrossIdeal.Gen Cert.Proof.Cross

section
variable (X : Vec Ideal S1x2048x1024 .f32) (M : Vec Ideal S1x256x1024 .f32) (g gm : FVec Ideal S1x1024 .f32) (w : FVec Ideal S1024x1024 .bf16) (wkv : Vec Ideal S1024x2048 .bf16)
  (wo : FVec Ideal S1024x1024 .bf16)
variable (X' : FVec Ideal S32x2048x1024 .f32) (M' : FVec Ideal S32x256x1024 .f32) (g' gm' : FVec Ideal S1024 .f32) (w' : FVec Ideal S1024x1024 .f32)
    (wkv' : FVec Ideal S1024x2048 .f32) (wo' : FVec Ideal S1024x1024 .f32)

/-- A block's result is the cross attention of its sequence, where the gains and the weights that the scores read are reals. -/
theorem blk_eq (b : Fin 32) (hX : ∀ R k, X (ix3 0 R k) = X' (ix3 b R k)) (hM : ∀ l k, M (ix3 0 l k) = M' (ix3 b l k)) (hg : ∀ k, g (ix2 0 k) = g' (ix1 k)) (hgm : ∀ k, gm (ix2 0 k) = gm' (ix1 k))
    (hw : ∀ k f, w (ix2 k f) = w' (ix2 k f)) (hwkv : ∀ k f, wkv (ix2 k f) = wkv' (ix2 k f)) (hwo : ∀ k f, wo (ix2 k f) = wo' (ix2 k f))
    (fg : ∀ i, IsR (g' i)) (fgm : ∀ i, IsR (gm' i)) (fw : ∀ i, IsR (w' i)) (fwkv : ∀ k f : Fin 1024, IsR (wkv' (ix2 k ⟨f.val, by omega⟩)))
    (R : Fin 2048) (d : Fin 1024) : blkOut X M g gm w wkv wo R d = crossAt X' M' g' gm' w' wkv' wo' b R d := by
  unfold blkOut crossAt
  simp only [hX, hM, hg, hgm, hw, hwkv, hwo]
  refine congrArg (fun z : EReal => X' (ix3 b R d) + z) (Finset.sum_congr rfl fun f _ => ?_)
  rw [cat_eq]
  refine congrArg (fun z : EReal => z * wo' (ix2 f d)) ?_
  have hs : ∀ l, IsR (∑ e : Fin 256, proj (fun i => X' (ix3 b R i)) (fun i => g' (ix1 i)) (fun i => w' (ix2 i ⟨f.val / 256 * 256 + e.val, by omega⟩))
        * proj (fun i => M' (ix3 b l i)) (fun i => gm' (ix1 i)) (fun i => wkv' (ix2 i ⟨f.val / 256 * 256 + e.val, by omega⟩))) := fun l =>
    IsR.sum fun e => (IsR.proj (fun _ => fg _) (fun _ => fw _)).mul (IsR.proj (fun _ => fgm _) (fun k => fwkv k ⟨f.val / 256 * 256 + e.val, by omega⟩))
  rw [← att_eq _ _ hs]
  have ev : ∀ h, (⟨1024 + (256 * (f.val / 256) + f.val % 256), h⟩ : Fin 2048) = ⟨1024 + f.val, by omega⟩ := fun h => Fin.ext (by show 1024 + (256 * (f.val / 256) + f.val % 256) = 1024 + f.val; omega)
  have ek : ∀ (e : Fin 256) h, (⟨256 * (f.val / 256) + e.val, h⟩ : Fin 2048) = ⟨f.val / 256 * 256 + e.val, by omega⟩ := fun e h => Fin.ext (by show 256 * (f.val / 256) + e.val = f.val / 256 * 256 + e.val; omega)
  have eq : ∀ (e : Fin 256) h, (⟨256 * (f.val / 256) + e.val, h⟩ : Fin 1024) = ⟨f.val / 256 * 256 + e.val, by omega⟩ := fun e h => Fin.ext (by show 256 * (f.val / 256) + e.val = f.val / 256 * 256 + e.val; omega)
  simp only [blkKv, hM, hgm, hwkv, ev, ek, eq]
  refine congrArg (fun a : Fin 256 → EReal => att a _) (funext fun l => ?_)
  have hd : (0 : ℝ) ≤ (Real.log 2)⁻¹ * (1 / 16) := by
    have : (0 : ℝ) < Real.log 2 := Real.log_pos (by norm_num)
    positivity
  refine Eq.trans ?_ (sum_div_real _ _ hd _).symm
  exact Finset.sum_congr rfl fun e _ => mul_right_comm _ _ _
end

variable (m : (ℓ : Loc nD τ sig) → Buf (Elt Ideal) ℓ) (c : Dev nD)

/-- The gains and the weights that the scores read have real entries. -/
def Finite : Prop :=
  (∀ i, IsR ((m ((c.tc : Thread nD τ).loc main_arg2) : Vec Ideal S1024 .f32) i)) ∧ (∀ i, IsR ((m ((c.tc : Thread nD τ).loc main_arg3) : Vec Ideal S1024 .f32) i))
  ∧ (∀ i, IsR ((m ((c.tc : Thread nD τ).loc main_arg4) : Vec Ideal S1024x1024 .f32) i))
  ∧ (∀ k f : Fin 1024, IsR ((m ((c.tc : Thread nD τ).loc main_arg5) : Vec Ideal S1024x2048 .f32) (ix2 k ⟨f.val, by omega⟩)))

/-- The arguments' cross attention. -/
abbrev resAt (b : Fin 32) (s : Fin 2048) (d : Fin 1024) : EReal :=
  crossAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) b s d

/-- The result array after the run. -/
theorem final (h : Finite m c) : (dats m 0 c).arrAt 7 cfg0.N = fun i : S32x2048x1024.Idx => resAt m c (i 0) (i 1) (i 2) := by
  obtain ⟨f2, f3, f4, f5⟩ := h
  refine (dats m 0 c).arrAt_eq_of_covers 7 _ (by decide +kernel) fun t hf y => ?_
  blk_simp
  rw [after0_7]
  idx_vars y
  obtain rfl : y0 = 0 := Subsingleton.elim _ _
  refine (block_point m c t y1 y2).trans ((blk_eq _ _ _ _ _ _ _ _ _ _ _ _ _ _ (seq t) (rd0 m c t) (rd1 m c t) (rd2 m c t) (rd3 m c t) (rd4 m c t) (rd5 m c t) (rd6 m c t)
    f2 f3 f4 f5 y1 y2).trans ?_)
  have e : ((cfg0.win 7).blk t).view.emb (ix3 0 y1 y2) = ix3 (seq t) y1 y2 := by
    blk_ext [idx t]
  exact (congrArg (fun i : S32x2048x1024.Idx => resAt m c (i 0) (i 1) (i 2)) e).symm
end Cert.Proof.CrossIdeal
end
-- ==== Proof.CrossPre.lean ====
module
public import proofs.«01_k».proof.Pre_finite_weights
public import proofs.«01_k».proof.Proof.CrossMath
public import Idealize.ShloMosaic.Lib.ReduceAll
public import Idealize.ShloMosaic.Lib.Pointwise

@[expose] public section
set_option maxRecDepth 16384
noncomputable section
open Idealize.ShloMosaic

/-! The precondition's shapes fit, and what it says: every entry of the arrays it reads is a real. -/
namespace Cert.Proof.CrossPre
open Cert.Pre_finite_weights Cert.Proof.Cross

/-- The shapes the precondition's operations take fit. -/
instance facts : Cert.Pre_finite_weights.Facts where
  bcast_S_S1024 := by decide
  reducesTo_S1024_S_d0 := by decide
  h_S_ := by decide
  bcast_S_S1024x1024 := by decide
  reducesTo_S1024x1024_S_d0_1 := by decide
  slices_S1024x2048_S1024x1024_0_0 := by decide

/-- An extended real whose magnitude is below infinity is a real. -/
theorem isR_of_abs {a : EReal} (h : FloatOps.cmpf (F := Ideal) (φ := .f32) .olt (FloatOps.hostAbsf (F := Ideal) (φ := .f32) a) (Ideal.ofBits FTy.f32 0x7F800000#32) = 1#1) : IsR a := by
  have hlt : max a (-a) < Ideal.ofBits FTy.f32 0x7F800000#32 := by
    by_contra hn
    have h0 : BitVec.ofBool (decide (max a (-a) < Ideal.ofBits FTy.f32 0x7F800000#32)) = 1#1 := h
    rw [decide_eq_false hn] at h0
    exact absurd h0 (by decide)
  have htop : Ideal.ofBits FTy.f32 0x7F800000#32 = ⊤ := by simp [Ideal.ofBits, Ideal.ieee]
  rw [htop, max_lt_iff] at hlt
  induction a with
  | bot => exact absurd hlt.2 (by simp)
  | top => exact absurd hlt.1 (by simp)
  | coe r => exact ⟨r, rfl⟩

instance : Subsingleton S_.Idx := ⟨fun i j => funext fun a => a.elim0⟩

variable (x : FVec Ideal S32x2048x1024 .f32) (mem : FVec Ideal S32x256x1024 .f32) (g gm : FVec Ideal S1024 .f32) (wq : FVec Ideal S1024x1024 .f32)
  (wkv : FVec Ideal S1024x2048 .f32) (wo : FVec Ideal S1024x1024 .f32)

/-- The precondition holds only of arrays whose entries are reals. -/
theorem finite (h : fn (F := Ideal) x mem g gm wq wkv wo = fun _ => 1#1) :
    (∀ i, IsR (g i)) ∧ (∀ i, IsR (gm i)) ∧ (∀ i, IsR (wq i)) ∧ (∀ k f : Fin 1024, IsR (wkv (ix2 k ⟨f.val, by omega⟩))) := by
  have e := congrFun h (fun a => a.elim0)
  simp only [fn, fn_part1] at e
  obtain ⟨e, h3⟩ := IntOp.andi_eq_one.1 e
  obtain ⟨e, h2⟩ := IntOp.andi_eq_one.1 e
  obtain ⟨h0, h1⟩ := IntOp.andi_eq_one.1 e
  refine ⟨fun i => isR_of_abs (Host.reduce_andi_all _ _ _ _ _ h0 i), fun i => isR_of_abs (Host.reduce_andi_all _ _ _ _ _ h1 i),
    fun i => isR_of_abs (Host.reduce_andi_all _ _ _ _ _ h2 i), fun k f => ?_⟩
  have hr := isR_of_abs (Host.reduce_andi_all _ _ _ _ _ h3 (ix2 k f))
  have hs : extractStridedSlice S1024x1024 ![0, 0] wkv Facts.slices_S1024x2048_S1024x1024_0_0 (ix2 k f) = wkv (ix2 k ⟨f.val, by omega⟩) := by
    pointwise
  exact hs ▸ hr
end Cert.Proof.CrossPre
end
-- ==== Proof.CrossRefPure.lean ====
module
public import proofs.«01_k».proof.Proof.CrossMath
public import proofs.«01_k».proof.Proof.Gen.CrossRefIdeal.Run
public import Idealize.ShloMosaic.Lib.Pointwise

@[expose] public section
set_option maxRecDepth 16384
noncomputable section
open Idealize.ShloMosaic Idealize.ShloMosaic.TcCoe Idealize.SL.Sem
namespace Cert.Proof.CrossRefIdeal
open Cert.CrossRefIdeal Cert.CrossRefIdeal.Gen Cert.CrossRefIdeal.Value Cert.Proof.Cross

/-- A maximum over the last of four axes, whatever the sizes. -/
theorem rowMax_at {n0 n1 n2 n3 : ℕ} (x : FVec Ideal ⟨4, ![n0, n1, n2, n3]⟩ .f32) (c : FVec Ideal S_ .f32) (hr : (⟨4, ![n0, n1, n2, n3]⟩ : Shape).ReducesTo [3] ⟨3, ![n0, n1, n2]⟩)
    (h' : (⟨4, ![n0, n1, n2, n3]⟩ : Shape).Reduces [3] ⟨3, ![n0, n1, n2]⟩) (hu : 0 < S_.numel) (v : EReal) (hc : c (Shape.Idx.first hu) = v) (a : Fin n0) (b : Fin n1) (s : Fin n2) :
    Host.reduce FloatOps.maximumf x c hr hu (ix3 a b s) = Finset.univ.fold max v fun l : Fin n3 => x (ix4 a b s l) := by
  subst hc
  refine (Host.reduce_eq_fold_single FloatOps.maximumf x c hr h' hu (ix3 a b s)).trans ?_
  have hf : (x ∘ h'.lift (ix3 a b s)) = fun l : Fin n3 => x (ix4 a b s l) := funext fun k => congrArg x (funext fun i => match i with
    | ⟨0, _⟩ => Fin.ext (h'.lift_val _ _ _)
    | ⟨1, _⟩ => Fin.ext (h'.lift_val _ _ _)
    | ⟨2, _⟩ => Fin.ext (h'.lift_val _ _ _)
    | ⟨3, _⟩ => Fin.ext (h'.lift_val _ _ _))
  exact congrArg (fun f => Finset.fold (max : EReal → EReal → EReal) (c (Shape.Idx.first hu)) f (Finset.univ : Finset (Fin n3))) hf

section
variable (X : FVec Ideal S32x2048x1024 .f32) (M : FVec Ideal S32x256x1024 .f32) (g gm : FVec Ideal S1024 .f32) (wq : FVec Ideal S1024x1024 .f32)
    (wkv : FVec Ideal S1024x2048 .f32) (wo : FVec Ideal S1024x1024 .f32)

/-! The reference's stages: the memory's projections, the rows', the scores, the weights and the result. -/

def refKv : FVec Ideal S32x256x2048 .f32 :=
  Host.dotGeneral dot_S32x256x1024_S1024x2048_S32x256x2048_2_0_01_1_n_n none (mulf (mulf M (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf M M) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 gm))) wkv

def refQ : FVec Ideal S32x2048x1024 .f32 :=
  Host.dotGeneral dot_S32x2048x1024_S1024x1024_S32x2048x1024_2_0_01_1_n_n none (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))) wq

theorem refKv_at (b : Fin 32) (l : Fin 256) (f : Fin 2048) : refKv M gm wkv (ix3 b l f) = proj (fun i => M (ix3 b l i)) (fun i => gm (ix1 i)) (fun i => wkv (ix2 i f)) := by
  pointwise [refKv]; rfl
theorem refQ_at (b : Fin 32) (s : Fin 2048) (f : Fin 1024) : refQ X g wq (ix3 b s f) = proj (fun i => X (ix3 b s i)) (fun i => g (ix1 i)) (fun i => wq (ix2 i f)) := by
  pointwise [refQ]; rfl

variable (Q : FVec Ideal S32x2048x1024 .f32) (KV : FVec Ideal S32x256x2048 .f32) (SC E SM : FVec Ideal S32x4x2048x256 .f32)

def refSc : FVec Ideal S32x4x2048x256 .f32 :=
  mulf (Host.dotGeneral dot_S32x2048x4x256_S32x256x4x256_S32x4x2048x256_3_3_1_1_02_02 none (shapeCast _ Q shapeCasts_S32x2048x1024_S32x2048x4x256) (shapeCast _ (extractStridedSlice S32x256x1024 ![0, 0, 0] KV slices_S32x256x2048_S32x256x1024_0_0_0) shapeCasts_S32x256x1024_S32x256x4x256)) (broadcastInDim S32x4x2048x256 ![] bcast_S_S32x4x2048x256 (constant S_ .f32 0x3D800000#32))
def refE : FVec Ideal S32x4x2048x256 .f32 :=
  Host.exp (subf SC (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) (Host.reduce FloatOps.maximumf SC (constant S_ .f32 0xFF800000#32) reducesTo_S32x4x2048x256_S32x4x2048_d3 h_S_)))))
def refSm : FVec Ideal S32x4x2048x256 .f32 :=
  Host.divf E (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd E (constant S_ .f32 0x00000000#32) reducesTo_S32x4x2048x256_S32x4x2048_d3 h_S_)))
def refOut : FVec Ideal S32x2048x1024 .f32 :=
  addf X (Host.dotGeneral dot_S32x2048x1024_S1024x1024_S32x2048x1024_2_0_01_1_n_n none (shapeCast _ (transpose S32x2048x4x256 [0, 3, 1, 2] (Host.dotGeneral dot_S32x256x4x256_S32x4x2048x256_S32x4x256x2048_1_3_3_2_02_01 none (shapeCast _ (extractStridedSlice S32x256x1024 ![0, 0, 1024] KV slices_S32x256x2048_S32x256x1024_0_0_1024) shapeCasts_S32x256x1024_S32x256x4x256) SM) transposes_S32x4x256x2048_S32x2048x4x256_0_3_1_2) shapeCasts_S32x2048x4x256_S32x2048x1024) wo)

theorem refSc_at (b : Fin 32) (h : Fin 4) (s : Fin 2048) (l : Fin 256) : refSc Q KV (ix4 b h s l)
    = (∑ e : Fin 256, Q (ix3 b s ⟨h.val * 256 + e.val, by omega⟩) * KV (ix3 b l ⟨h.val * 256 + e.val, by omega⟩)) * Ideal.ofBits FTy.f32 0x3D800000#32 := by
  pointwise [refSc]
theorem max_at (A Z : FVec Ideal S32x4x2048 .f32) (i : S32x4x2048.Idx) : maximumf A Z i = max (A i) (Z i) := rfl
theorem negInf_at (i : S32x4x2048.Idx) : broadcastInDim S32x4x2048 ![] bcast_S_S32x4x2048 (constant (F := Ideal) S_ .f32 0xFF800000#32) i = Ideal.ofBits FTy.f32 0xFF800000#32 := by
  pointwise
theorem sub_at (Z : FVec Ideal S32x4x2048 .f32) (b : Fin 32) (h : Fin 4) (s : Fin 2048) (l : Fin 256) :
    Host.exp (subf SC (broadcastInDim S32x4x2048x256 ![0, 1, 2, 3] bcast_S32x4x2048x1_S32x4x2048x256_0_1_2_3 (broadcastInDim S32x4x2048x1 ![0, 1, 2] bcast_S32x4x2048_S32x4x2048x1_0_1_2 Z))) (ix4 b h s l)
      = Ideal.exp (SC (ix4 b h s l) - Z (ix3 b h s)) := by
  pointwise
theorem refE_at (b : Fin 32) (h : Fin 4) (s : Fin 2048) (l : Fin 256) : refE SC (ix4 b h s l)
    = Ideal.exp (SC (ix4 b h s l) - max (Ideal.ofBits FTy.f32 0xFF800000#32) (Finset.univ.fold max (Ideal.ofBits FTy.f32 0xFF800000#32) fun l => SC (ix4 b h s l))) := by
  rw [← rowMax_at SC (constant S_ .f32 0xFF800000#32) reducesTo_S32x4x2048x256_S32x4x2048_d3 (by decide) h_S_ _ (by pointwise) b h s]
  unfold refE
  generalize Host.reduce FloatOps.maximumf SC (constant S_ .f32 0xFF800000#32) reducesTo_S32x4x2048x256_S32x4x2048_d3 h_S_ = Z
  rw [sub_at, max_at, negInf_at]
theorem refSm_at (b : Fin 32) (h : Fin 4) (s : Fin 2048) (l : Fin 256) : refSm E (ix4 b h s l) = Ideal.div (E (ix4 b h s l)) (∑ l, E (ix4 b h s l)) := by
  pointwise [refSm]
theorem refOut_at (b : Fin 32) (s : Fin 2048) (d : Fin 1024) : refOut X wo KV SM (ix3 b s d)
    = X (ix3 b s d) + ∑ f : Fin 1024, (∑ l : Fin 256, KV (ix3 b l ⟨1024 + f.val, by omega⟩) * SM (ix4 b ⟨f.val / 256, by omega⟩ s l)) * wo (ix2 f d) := by
  pointwise [refOut]

/-- An entry of the last stage over all of them. -/
theorem stages_at (b : Fin 32) (s : Fin 2048) (d : Fin 1024) :
    refOut X wo (refKv M gm wkv) (refSm (refE (refSc (refQ X g wq) (refKv M gm wkv)))) (ix3 b s d) = crossAt X M g gm wq wkv wo b s d := by
  rw [refOut_at]
  simp only [refSm_at, refE_at, refSc_at, refKv_at, refQ_at]
  simp only [crossAt, refAtt, refWt]
end

/-- An entry of the reference's result. -/
theorem res_at (m : (ℓ : Loc nD τ sig) → Buf (Elt Ideal) ℓ) (c : Dev nD) (b : Fin 32) (s : Fin 2048) (d : Fin 1024)
    (X : FVec Ideal S32x2048x1024 .f32) (M : FVec Ideal S32x256x1024 .f32) (g gm : FVec Ideal S1024 .f32) (wq : FVec Ideal S1024x1024 .f32)
    (wkv : FVec Ideal S1024x2048 .f32) (wo : FVec Ideal S1024x1024 .f32)
    (h0 : m ((c.tc : Thread nD τ).loc main_arg0) = X) (h1 : m ((c.tc : Thread nD τ).loc main_arg1) = M) (h2 : m ((c.tc : Thread nD τ).loc main_arg2) = g)
    (h3 : m ((c.tc : Thread nD τ).loc main_arg3) = gm) (h4 : m ((c.tc : Thread nD τ).loc main_arg4) = wq) (h5 : m ((c.tc : Thread nD τ).loc main_arg5) = wkv)
    (h6 : m ((c.tc : Thread nD τ).loc main_arg6) = wo) :
    res_main_v51 (F := Ideal) m c (ix3 b s d)
      = crossAt X M g gm wq wkv wo b s d := by
  subst h0 h1 h2 h3 h4 h5 h6
  exact stages_at _ _ _ _ _ _ _ b s d
end Cert.Proof.CrossRefIdeal
end
-- ==== Proof.CrossTie.lean ====
module
public import proofs.«01_k».proof.Defs
public import proofs.«01_k».proof.Proof.CrossFinal
public import proofs.«01_k».proof.Proof.CrossPre
public import proofs.«01_k».proof.Proof.CrossRefPure
public import proofs.«01_k».proof.Proof.Gen.CrossRefIdeal.Run
public import Idealize.ShloMosaic.Lib.Claim
public import Idealize.ShloMosaic.Adequacy

@[expose] public section
set_option maxRecDepth 16384
noncomputable section
open Idealize.ShloMosaic Idealize.ShloMosaic.TcCoe Idealize.SL.Sem
namespace Cert.Proof.CrossTie
open Cert Cert.Proof.Cross

/-- The reference ends with its arguments unchanged and every counter zero. -/
theorem ref_quiet : quiescent_CrossRefIdeal (hCrossRefIdeal := Cert.CrossRefIdeal.Gen.facts) := fun m ρ _ =>
  (θ_run Cert.CrossRefIdeal.defs _ _).mono (fun r h => ⟨fun c => (h c).2, sem_eq_zero_of_no_sems (by decide) r.2⟩)
    (Cert.CrossRefIdeal.Value.run (F := Ideal) m ρ)

/-- The kernel's and the reference's results are equal as extended reals, of arguments that the precondition holds of. -/
theorem tie : algebraic_CrossIdeal_CrossRefIdeal_pre_finite_weights (hCrossIdeal := Cert.CrossIdeal.Gen.facts) (hCrossRefIdeal := Cert.CrossRefIdeal.Gen.facts)
    (hPre_finite_weights := Cert.Proof.CrossPre.facts) := by
  intro m ρ m' ρ' hpre hagree
  refine ⟨_, Cert.CrossIdeal.Value.run_blocks (F := Ideal) m ρ, ?_⟩
  refine (θ_run Cert.CrossRefIdeal.defs _ _).mono (fun _ h c => ⟨?_, (h c).2⟩) (Cert.CrossRefIdeal.Value.run (F := Ideal) m' ρ')
  rw [(h c).1, Cert.Proof.CrossIdeal.final m c (Cert.Proof.CrossPre.finite _ _ _ _ _ _ _ (hpre c))]
  obtain ⟨h0, h1, h2, h3, h4, h5, h6⟩ := hagree c
  funext i
  refine Eq.trans (congrArg _ (ix3_eta i).symm) ?_
  exact Cert.Proof.CrossRefIdeal.res_at m' c (i 0) (i 1) (i 2) _ _ _ _ _ _ _ h0 h1 h2 h3 h4 h5 h6
end Cert.Proof.CrossTie
end
-- ==== Proof.MixMath.lean ====
module
public import proofs.«01_k».proof.Proof.Causal

@[expose] public section
set_option maxRecDepth 16384
noncomputable section
open Idealize.ShloMosaic

/-! The mixer's projections and its short convolution, entry by entry, over the extended reals. -/
namespace Cert.Proof.Mix
open Cert.Proof.Ffn

/-- A row of 512 entries divided by its root mean square and multiplied by a gain. -/
def nrm5 (y g : Fin 512 → EReal) (k : Fin 512) : EReal :=
  y k * Ideal.rsqrt (Ideal.div (∑ l, y l * y l) (Ideal.ofBits FTy.f32 0x44000000#32) + Ideal.ofBits FTy.f32 0x358637BD#32) * g k

/-- The scale of the queries. -/
abbrev qscale : EReal := Ideal.ofBits FTy.f32 0x3E38AA3B#32

variable (X : FVec Ideal ⟨3, ![32, 2048, 1024]⟩ .f32) (g : FVec Ideal ⟨1, ![1024]⟩ .f32) (w : FVec Ideal ⟨2, ![1024, 3072]⟩ .f32)
  (cw : FVec Ideal ⟨2, ![3, 512]⟩ .f32) (cg : FVec Ideal ⟨1, ![512]⟩ .f32)

/-- The projection of sequence `b`'s row `s` onto column `f`. -/
def pj (b : Fin 32) (s : Fin 2048) (f : Fin 3072) : EReal := up (fun k => X (ix3 b s k)) (fun k => g (ix1 k)) (fun k => w (ix2 k f))

/-- The scaled query of block `n`, at a feature and a row of the block. -/
def qAt (b : Fin 32) (n : Fin 8) (d : Fin 512) (r : Fin 256) : EReal := pj X g w b ⟨n.val * 256 + r.val, by omega⟩ ⟨d.val, by omega⟩ * qscale
/-- The key of a row. -/
def kAt (b : Fin 32) (s : Fin 2048) (d : Fin 512) : EReal := pj X g w b s ⟨512 + d.val, by omega⟩
/-- The value of block `n`, at a feature and a row of the block. -/
def vAt (b : Fin 32) (n : Fin 8) (d : Fin 512) (r : Fin 256) : EReal := pj X g w b ⟨n.val * 256 + r.val, by omega⟩ ⟨1024 + d.val, by omega⟩
/-- The entry that the convolution reads. -/
def zAt (b : Fin 32) (s : Fin 2048) (d : Fin 512) : EReal := pj X g w b s ⟨2048 + d.val, by omega⟩ * pj X g w b s ⟨2560 + d.val, by omega⟩
/-- The gated convolution before its normalisation. -/
def yAt (b : Fin 32) (s : Fin 2048) (d : Fin 512) : EReal :=
  pj X g w b s ⟨1536 + d.val, by omega⟩
    * gate (before 2 (fun s' => zAt X g w b s' d) s) (before 1 (fun s' => zAt X g w b s' d) s) (zAt X g w b s d) (cw (ix2 0 d)) (cw (ix2 1 d)) (cw (ix2 2 d))
/-- The convolution group's result. -/
def ycAt (b : Fin 32) (s : Fin 2048) (d : Fin 512) : EReal := nrm5 (fun e => yAt X g w cw b s e) (fun e => cg (ix1 e)) d
end Cert.Proof.Mix
end
-- ==== Proof.MixPure.lean ====
module
public import proofs.«01_k».proof.Proof.MixMath
public import proofs.«01_k».proof.Proof.Gen.MixIdeal.Skeleton
public import Idealize.ShloMosaic.Lib.Pointwise

@[expose] public section
set_option maxRecDepth 16384
noncomputable section
open Idealize.ShloMosaic Idealize.ShloMosaic.TcCoe Idealize.SL.Sem

/-! One group of 256 rows of the mixer's entry: what each of its four results holds. -/
namespace Cert.Proof.MixIdeal
open Cert.MixIdeal Cert.MixIdeal.Gen Cert.Proof.Ffn Cert.Proof.Mix

section
variable (x : FVec Ideal S1x256x1024 .f32) (g : FVec Ideal S1x1024 .f32) (w wc wu wb : FVec Ideal S1024x512 .bf16) (v : FVec Ideal S512x1024 .bf16)
  (tl : FVec Ideal S8x512 .f32) (cw : FVec Ideal S3x512 .f32) (cg : FVec Ideal S1x512 .f32) (r : Fin 256) (d : Fin 512)

/-- The normalised rows of a group. -/
abbrev H : FVec Ideal S256x1024 .bf16 := k0_pay59 (F := Ideal) x g
/-- The rows that a group's convolution reads. -/
abbrev Z : FVec Ideal S256x512 .f32 := k0_pay109 (F := Ideal) x g wc wu
/-- The last eight of those rows. -/
abbrev T : FVec Ideal S8x512 .f32 := k0_pay12 (F := Ideal) (Z x g wc wu)
/-- A group's convolution result. -/
abbrev Y : FVec Ideal S1x256x512 .bf16 :=
  k0_pay65 (F := Ideal) (k0_pay63 (F := Ideal) tl (H x g) (k0_pay60 (F := Ideal) wc) (constant (F := Ideal) S256x512 FTy.f32 0#32) wu cw wb)
    (k0_pay64 (F := Ideal) tl (H x g) (k0_pay60 (F := Ideal) wc) (constant (F := Ideal) S256x512 FTy.f32 0#32) wu cw wb) cg

/-- The projection of a group's row onto a column. -/
abbrev upAt : EReal := up (fun k => x (ix3 0 r k)) (fun k => g (ix2 0 k)) (fun k => w (ix2 k d))
/-- The projection of a group's row onto a column of the transposed weights. -/
abbrev upTAt : EReal := up (fun k => x (ix3 0 r k)) (fun k => g (ix2 0 k)) (fun k => v (ix2 d k))

/-! The groups' normalised rows, the rows their convolutions read, the last eight of those, and their results are the same functions. -/
theorem h0 : (k0_pay8 (F := Ideal) (k0_pay6 (F := Ideal) x) (k0_pay7 (F := Ideal) x) g) = H x g := rfl
theorem h2 : (k0_pay108 (F := Ideal) x g) = H x g := rfl
theorem h3 : (k0_pay161 (F := Ideal) (k0_pay159 (F := Ideal) x) (k0_pay160 (F := Ideal) x) g) = H x g := rfl
theorem h4 : (k0_pay215 (F := Ideal) (k0_pay214 (F := Ideal) x g)) = H x g := rfl
theorem h5 : (k0_pay265 (F := Ideal) x g) = H x g := rfl
theorem h6 : (k0_pay312 (F := Ideal) x g) = H x g := rfl
theorem h7 : (k0_pay366 (F := Ideal) (k0_pay365 (F := Ideal) x) g) = H x g := rfl
theorem z0 : (k0_pay9 (F := Ideal) (k0_pay6 (F := Ideal) x) (k0_pay7 (F := Ideal) x) g wc wu) = Z x g wc wu := rfl
theorem z3 : (k0_pay162 (F := Ideal) (k0_pay159 (F := Ideal) x) (k0_pay160 (F := Ideal) x) g wc wu) = Z x g wc wu := rfl
theorem z5 : (k0_pay266 (F := Ideal) x g wc wu) = Z x g wc wu := rfl
theorem z6 : (k0_pay313 (F := Ideal) x g wc wu) = Z x g wc wu := rfl
theorem t0 : (k0_pay12 (F := Ideal) (k0_pay9 (F := Ideal) (k0_pay6 (F := Ideal) x) (k0_pay7 (F := Ideal) x) g wc wu)) = T x g wc wu := rfl
theorem t1 : (k0_pay62 (F := Ideal) (k0_pay59 (F := Ideal) x g) (k0_pay60 (F := Ideal) wc) (constant (F := Ideal) S256x512 FTy.f32 0#32) wu) = T x g wc wu := rfl
theorem t2 : (k0_pay113 (F := Ideal) (k0_pay109 (F := Ideal) x g wc wu)) = T x g wc wu := rfl
theorem t3 : (k0_pay166 (F := Ideal) (k0_pay162 (F := Ideal) (k0_pay159 (F := Ideal) x) (k0_pay160 (F := Ideal) x) g wc wu)) = T x g wc wu := rfl
theorem t4 : (k0_pay217 (F := Ideal) (k0_pay214 (F := Ideal) x g) wc wu) = T x g wc wu := rfl
theorem t5 : (k0_pay267 (F := Ideal) (k0_pay266 (F := Ideal) x g wc wu)) = T x g wc wu := rfl
theorem t6 : (k0_pay318 (F := Ideal) (k0_pay313 (F := Ideal) x g wc wu)) = T x g wc wu := rfl
theorem y0 : (k0_pay13 (F := Ideal) (k0_pay8 (F := Ideal) (k0_pay6 (F := Ideal) x) (k0_pay7 (F := Ideal) x) g) (k0_pay9 (F := Ideal) (k0_pay6 (F := Ideal) x) (k0_pay7 (F := Ideal) x) g wc wu) (k0_pay10 (F := Ideal) tl (k0_pay6 (F := Ideal) x) (k0_pay7 (F := Ideal) x) g wc wu cw) (k0_pay11 (F := Ideal) cw) wb cg) = Y x g wc wu wb tl cw cg := rfl
theorem y2 : (k0_pay115 (F := Ideal) (k0_pay114 (F := Ideal) tl (k0_pay108 (F := Ideal) x g) (k0_pay109 (F := Ideal) x g wc wu) cw (iota Kind.tc S8x512 32 [0] iota_S8x512_d0_w32) (k0_pay110 (F := Ideal) x g wc wu) (k0_pay111 (F := Ideal) x g wc wu) (k0_pay112 (F := Ideal) tl) wb cg)) = Y x g wc wu wb tl cw cg := rfl
theorem y3 : (k0_pay167 (F := Ideal) (k0_pay161 (F := Ideal) (k0_pay159 (F := Ideal) x) (k0_pay160 (F := Ideal) x) g) (k0_pay162 (F := Ideal) (k0_pay159 (F := Ideal) x) (k0_pay160 (F := Ideal) x) g wc wu) cw (k0_pay163 (F := Ideal) tl (k0_pay159 (F := Ideal) x) (k0_pay160 (F := Ideal) x) g wc wu) (k0_pay164 (F := Ideal) tl (k0_pay159 (F := Ideal) x) (k0_pay160 (F := Ideal) x) g wc wu) (k0_pay165 (F := Ideal) cw) wb cg) = Y x g wc wu wb tl cw cg := rfl
theorem y4 : (k0_pay220 (F := Ideal) (k0_pay218 (F := Ideal) tl (k0_pay214 (F := Ideal) x g) wc wu cw wb) (k0_pay219 (F := Ideal) tl (k0_pay214 (F := Ideal) x g) wc wu cw wb) cg) = Y x g wc wu wb tl cw cg := rfl
theorem y5 : (k0_pay269 (F := Ideal) (k0_pay268 (F := Ideal) tl (k0_pay265 (F := Ideal) x g) (k0_pay266 (F := Ideal) x g wc wu) cw (iota Kind.tc S8x512 32 [0] iota_S8x512_d0_w32) wb cg)) = Y x g wc wu wb tl cw cg := rfl
theorem y6 : (k0_pay319 (F := Ideal) (k0_pay312 (F := Ideal) x g) (k0_pay313 (F := Ideal) x g wc wu) cw (k0_pay314 (F := Ideal) x g wc wu) (k0_pay315 (F := Ideal) tl) (k0_pay316 (F := Ideal) tl x g wc wu) k0_pay317 wb cg) = Y x g wc wu wb tl cw cg := rfl
theorem y7 : (k0_pay370 (F := Ideal) (k0_pay366 (F := Ideal) (k0_pay365 (F := Ideal) x) g) (k0_pay368 (F := Ideal) tl (k0_pay365 (F := Ideal) x) g wc wu cw) wb cg) = Y x g wc wu wb tl cw cg := rfl
theorem k0 : (k0_pay57 (F := Ideal) (k0_pay56 (F := Ideal) (k0_pay8 (F := Ideal) (k0_pay6 (F := Ideal) x) (k0_pay7 (F := Ideal) x) g) w)) = (k0_pay104 (F := Ideal) (k0_pay59 (F := Ideal) x g) w) := rfl
theorem k2 : (k0_pay157 (F := Ideal) (k0_pay108 (F := Ideal) x g) w) = (k0_pay104 (F := Ideal) (k0_pay59 (F := Ideal) x g) w) := rfl
theorem k3 : (k0_pay212 (F := Ideal) (k0_pay161 (F := Ideal) (k0_pay159 (F := Ideal) x) (k0_pay160 (F := Ideal) x) g) w) = (k0_pay104 (F := Ideal) (k0_pay59 (F := Ideal) x g) w) := rfl
theorem k4 : (k0_pay262 (F := Ideal) (k0_pay215 (F := Ideal) (k0_pay214 (F := Ideal) x g)) w) = (k0_pay104 (F := Ideal) (k0_pay59 (F := Ideal) x g) w) := rfl
theorem k5 : (k0_pay310 (F := Ideal) (k0_pay265 (F := Ideal) x g) w) = (k0_pay104 (F := Ideal) (k0_pay59 (F := Ideal) x g) w) := rfl
theorem k6 : (k0_pay363 (F := Ideal) (k0_pay312 (F := Ideal) x g) w) = (k0_pay104 (F := Ideal) (k0_pay59 (F := Ideal) x g) w) := rfl
theorem k7 : (k0_pay413 (F := Ideal) (k0_pay366 (F := Ideal) (k0_pay365 (F := Ideal) x) g) w) = (k0_pay104 (F := Ideal) (k0_pay59 (F := Ideal) x g) w) := rfl
theorem q0 : (k0_pay16 (F := Ideal) (k0_pay14 (F := Ideal) (k0_pay8 (F := Ideal) (k0_pay6 (F := Ideal) x) (k0_pay7 (F := Ideal) x) g) v) (FloatOps.ofBits (F := Ideal) FTy.f32 1043900987#32)) = (k0_pay68 (F := Ideal) (k0_pay59 (F := Ideal) x g) v) := rfl
theorem q2 : (k0_pay118 (F := Ideal) (k0_pay108 (F := Ideal) x g) v) = (k0_pay68 (F := Ideal) (k0_pay59 (F := Ideal) x g) v) := rfl
theorem q3 : (k0_pay171 (F := Ideal) (k0_pay168 (F := Ideal) (k0_pay161 (F := Ideal) (k0_pay159 (F := Ideal) x) (k0_pay160 (F := Ideal) x) g) v)) = (k0_pay68 (F := Ideal) (k0_pay59 (F := Ideal) x g) v) := rfl
theorem q4 : (k0_pay223 (F := Ideal) (k0_pay215 (F := Ideal) (k0_pay214 (F := Ideal) x g)) v) = (k0_pay68 (F := Ideal) (k0_pay59 (F := Ideal) x g) v) := rfl
theorem q5 : (k0_pay272 (F := Ideal) (k0_pay265 (F := Ideal) x g) v) = (k0_pay68 (F := Ideal) (k0_pay59 (F := Ideal) x g) v) := rfl
theorem q6 : (k0_pay323 (F := Ideal) (k0_pay320 (F := Ideal) (k0_pay312 (F := Ideal) x g) v)) = (k0_pay68 (F := Ideal) (k0_pay59 (F := Ideal) x g) v) := rfl
theorem q7 : (k0_pay374 (F := Ideal) (k0_pay373 (F := Ideal) (k0_pay366 (F := Ideal) (k0_pay365 (F := Ideal) x) g) v)) = (k0_pay68 (F := Ideal) (k0_pay59 (F := Ideal) x g) v) := rfl
theorem v0 : (k0_pay15 (F := Ideal) (k0_pay8 (F := Ideal) (k0_pay6 (F := Ideal) x) (k0_pay7 (F := Ideal) x) g) v) = (k0_pay67 (F := Ideal) (k0_pay59 (F := Ideal) x g) v) := rfl
theorem v2 : (k0_pay117 (F := Ideal) (k0_pay108 (F := Ideal) x g) v) = (k0_pay67 (F := Ideal) (k0_pay59 (F := Ideal) x g) v) := rfl
theorem v3 : (k0_pay170 (F := Ideal) (k0_pay169 (F := Ideal) (k0_pay161 (F := Ideal) (k0_pay159 (F := Ideal) x) (k0_pay160 (F := Ideal) x) g) v)) = (k0_pay67 (F := Ideal) (k0_pay59 (F := Ideal) x g) v) := rfl
theorem v4 : (k0_pay222 (F := Ideal) (k0_pay215 (F := Ideal) (k0_pay214 (F := Ideal) x g)) v) = (k0_pay67 (F := Ideal) (k0_pay59 (F := Ideal) x g) v) := rfl
theorem v5 : (k0_pay271 (F := Ideal) (k0_pay265 (F := Ideal) x g) v) = (k0_pay67 (F := Ideal) (k0_pay59 (F := Ideal) x g) v) := rfl
theorem v6 : (k0_pay322 (F := Ideal) (k0_pay312 (F := Ideal) x g) (k0_pay321 (F := Ideal) v)) = (k0_pay67 (F := Ideal) (k0_pay59 (F := Ideal) x g) v) := rfl
theorem v7 : (k0_pay372 (F := Ideal) (k0_pay366 (F := Ideal) (k0_pay365 (F := Ideal) x) g) v) = (k0_pay67 (F := Ideal) (k0_pay59 (F := Ideal) x g) v) := rfl

/-- A key entry of a group. -/
theorem k_at : k0_pay104 (F := Ideal) (H x g) w (ix3 0 r d) = upAt x g w r d := by
  pointwise [k0_pay104, k0_pay103, k0_pay59]; rfl
/-- A value entry of a group. -/
theorem v_at : k0_pay67 (F := Ideal) (H x g) v (ix4 0 0 d r) = upTAt x g v r d := by
  refine Eq.trans ?_ (Finset.sum_congr rfl fun k _ => mul_comm _ _)
  pointwise [k0_pay67, k0_pay59]; rfl
/-- A query entry of a group. -/
theorem q_at : k0_pay68 (F := Ideal) (H x g) v (ix4 0 0 d r) = upTAt x g v r d * qscale := by
  refine Eq.trans ?_ (congrArg (· * qscale) (Finset.sum_congr rfl fun k _ => mul_comm _ _))
  pointwise [k0_pay68, k0_pay66, k0_pay59]; rfl
/-- An entry that a group's convolution reads. -/
theorem z_at : Z x g wc wu (ix2 r d) = upAt x g wc r d * upAt x g wu r d := by
  pointwise [k0_pay109, k0_pay108]; rfl
/-- One of the last eight rows. -/
theorem t_at (i : Fin 8) : T x g wc wu (ix2 i d) = Z x g wc wu (ix2 ⟨248 + i.val, by omega⟩ d) := by
  unfold T
  generalize Z x g wc wu = z
  pointwise [k0_pay12]
theorem t_zero (i : Fin 8) : k0_pay4 (F := Ideal) (ix2 i d) = 0 := by
  pointwise [k0_pay4]
/-- An entry of a group's convolution result. -/
theorem y_at : Y x g wc wu wb tl cw cg (ix3 0 r d) = nrm5 (fun e => upAt x g wb r e
    * gate (above tl (Z x g wc wu) 2 (by decide) r e) (above tl (Z x g wc wu) 1 (by decide) r e) (Z x g wc wu (ix2 r e)) (cw (ix2 0 e)) (cw (ix2 1 e)) (cw (ix2 2 e)))
    (fun e => cg (ix2 0 e)) d := by
  refine (congrFun (y5 x g wc wu wb tl cw cg).symm _).trans ?_
  rw [h5, z5]
  generalize Z x g wc wu = z
  pointwise [k0_pay269, k0_pay268, k0_pay59]
  simp only [shift2, shift1, zero_sub]; rfl
end
end Cert.Proof.MixIdeal
end
-- ==== Proof.MixValue.lean ====
module
public import proofs.«01_k».proof.Proof.MixPure
public import proofs.«01_k».proof.Proof.Gen.MixIdeal.Value
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)

/-! One grid point of the mixer's entry, a whole sequence in eight groups of rows: what its four results' blocks hold. -/
namespace Cert.Proof.MixIdeal
open Cert.MixIdeal Cert.MixIdeal.Gen Cert.Proof.Ffn Cert.Proof.Mix

variable (m : (ℓ : Loc nD τ sig) → Buf (Elt Ideal) ℓ) (c : Dev nD)

section
variable (x0 : FVec Ideal S1x2048x1024 .f32) (g : FVec Ideal S1x1024 .f32) (w : FVec Ideal S1024x3072 .bf16) (wt : FVec Ideal S1024x1024 .bf16)
  (cw : FVec Ideal S3x512 .f32) (cg : FVec Ideal S1x512 .f32)

/-- The projection of a block's row onto a column. -/
def bp (R : Fin 2048) (f : Fin 3072) : EReal := up (fun k => x0 (ix3 0 R k)) (fun k => g (ix2 0 k)) (fun k => w (ix2 k f))
/-- The projection of a block's row onto a column of the transposed weights. -/
def bpT (R : Fin 2048) (f : Fin 1024) : EReal := up (fun k => x0 (ix3 0 R k)) (fun k => g (ix2 0 k)) (fun k => wt (ix2 f k))
/-- The entry of a block that the convolution reads. -/
def bz (R : Fin 2048) (f : Fin 512) : EReal := bp x0 g w R ⟨2048 + f.val, by omega⟩ * bp x0 g w R ⟨2560 + f.val, by omega⟩
/-- An entry of a block's convolution result. -/
def by9 (R : Fin 2048) (d : Fin 512) : EReal :=
  nrm5 (fun e => bp x0 g w R ⟨1536 + e.val, by omega⟩
    * gate (blkAbove (k0_pay4 (F := Ideal)) (bz x0 g w) 2 (by decide) R e) (blkAbove (k0_pay4 (F := Ideal)) (bz x0 g w) 1 (by decide) R e) (bz x0 g w R e)
        (cw (ix2 0 e)) (cw (ix2 1 e)) (cw (ix2 2 e)))
    (fun e => cg (ix2 0 e)) d

variable (x : FVec Ideal S1x256x1024 .f32) (o : ℕ) (ho : o + 256 ≤ 2048)
    (hx : ∀ (r : Fin 256) (k : Fin 1024), x (ix3 0 r k) = x0 (ix3 0 ⟨o + r.val, by omega⟩ k))
include hx

/-- The projection of a group's row is that of the block's row. -/
theorem upBlk (wl : FVec Ideal S1024x512 .bf16) (j : ℕ) (hj : j + 512 ≤ 3072)
    (hw : ∀ (k : Fin 1024) (f : Fin 512), wl (ix2 k f) = w (ix2 k ⟨j + f.val, by omega⟩)) (r : Fin 256) (f : Fin 512) :
    upAt x g wl r f = bp x0 g w ⟨o + r.val, by omega⟩ ⟨j + f.val, by omega⟩ := by
  unfold upAt bp
  simp only [hx, hw]

/-- The same of the transposed weights. -/
theorem upTBlk (vl : FVec Ideal S512x1024 .bf16) (j : ℕ) (hj : j + 512 ≤ 1024)
    (hv : ∀ (f : Fin 512) (k : Fin 1024), vl (ix2 f k) = wt (ix2 ⟨j + f.val, by omega⟩ k)) (r : Fin 256) (f : Fin 512) :
    upTAt x g vl r f = bpT x0 g wt ⟨o + r.val, by omega⟩ ⟨j + f.val, by omega⟩ := by
  unfold upTAt bpT
  simp only [hx, hv]

section
variable (wc wu : FVec Ideal S1024x512 .bf16)
    (hwc : ∀ (k : Fin 1024) (f : Fin 512), wc (ix2 k f) = w (ix2 k ⟨2048 + f.val, by omega⟩))
    (hwu : ∀ (k : Fin 1024) (f : Fin 512), wu (ix2 k f) = w (ix2 k ⟨2560 + f.val, by omega⟩))
include hwc hwu

/-- What a group's convolution reads is what the block's reads. -/
theorem zBlk (r : Fin 256) (f : Fin 512) : Z x g wc wu (ix2 r f) = bz x0 g w ⟨o + r.val, by omega⟩ f :=
  (z_at x g wc wu r f).trans (congrArg₂ (· * ·) (upBlk x0 g w x o ho hx wc 2048 (by decide) hwc r f) (upBlk x0 g w x o ho hx wu 2560 (by decide) hwu r f))

/-- A group's last rows are the block's rows above the next group. -/
theorem tBlk (i : Fin 8) (f : Fin 512) : T x g wc wu (ix2 i f) = bz x0 g w ⟨o + 256 - 8 + i.val, by omega⟩ f :=
  (t_at x g wc wu f i).trans ((zBlk x0 g w x o ho hx wc wu hwc hwu _ f).trans
    (congrArg (fun a => bz x0 g w a f) (Fin.ext (by show o + (248 + i.val) = o + 256 - 8 + i.val; omega))))

/-- A group's convolution result is the block's. -/
theorem yBlk (wb : FVec Ideal S1024x512 .bf16) (tl : FVec Ideal S8x512 .f32)
    (hwb : ∀ (k : Fin 1024) (f : Fin 512), wb (ix2 k f) = w (ix2 k ⟨1536 + f.val, by omega⟩))
    (ht : (o = 0 ∧ tl = k0_pay4 (F := Ideal)) ∨ (8 ≤ o ∧ ∀ (i : Fin 8) (f : Fin 512), tl (ix2 i f) = bz x0 g w ⟨o - 8 + i.val, by omega⟩ f))
    (r : Fin 256) (d : Fin 512) (R : Fin 2048) (hR : R.val = o + r.val) :
    Y x g wc wu wb tl cw cg (ix3 0 r d) = by9 x0 g w cw cg R d := by
  have hz := zBlk x0 g w x o ho hx wc wu hwc hwu
  have e2 := fun f => aboveBlk (k0_pay4 (F := Ideal)) (Z x g wc wu) tl (bz x0 g w) o ho hz ht 2 (by decide) r f R hR
  have e1 := fun f => aboveBlk (k0_pay4 (F := Ideal)) (Z x g wc wu) tl (bz x0 g w) o ho hz ht 1 (by decide) r f R hR
  have eb := fun f => upBlk x0 g w x o ho hx wb 1536 (by decide) hwb r f
  have eR : (⟨o + r.val, by omega⟩ : Fin 2048) = R := Fin.ext hR.symm
  rw [y_at]
  unfold by9
  simp only [e2, e1, eb, hz, eR]
end
end

section
variable (x : Vec Ideal S1x2048x1024 .f32) (w : Vec Ideal S1024x3072 .bf16) (wt : Vec Ideal S1024x1024 .bf16)
theorem ldw512 (k : Fin 1024) (f : Fin 512) : (View.ld w (Rect.unit ![0, 512] ![1024, 512] inb_S1024x3072_S1024x512_0_512) : Vec Ideal S1024x512 .bf16) (ix2 k f) = w (ix2 k ⟨512 + f.val, by omega⟩) :=
  View.ld_unit_apply_of _ _ _ _ _ _ (Fin.forall_fin_two.2 ⟨(Nat.zero_add k.val).symm, rfl⟩)
theorem ldw1536 (k : Fin 1024) (f : Fin 512) : (View.ld w (Rect.unit ![0, 1536] ![1024, 512] inb_S1024x3072_S1024x512_0_1536) : Vec Ideal S1024x512 .bf16) (ix2 k f) = w (ix2 k ⟨1536 + f.val, by omega⟩) :=
  View.ld_unit_apply_of _ _ _ _ _ _ (Fin.forall_fin_two.2 ⟨(Nat.zero_add k.val).symm, rfl⟩)
theorem ldw2048 (k : Fin 1024) (f : Fin 512) : (View.ld w (Rect.unit ![0, 2048] ![1024, 512] inb_S1024x3072_S1024x512_0_2048) : Vec Ideal S1024x512 .bf16) (ix2 k f) = w (ix2 k ⟨2048 + f.val, by omega⟩) :=
  View.ld_unit_apply_of _ _ _ _ _ _ (Fin.forall_fin_two.2 ⟨(Nat.zero_add k.val).symm, rfl⟩)
theorem ldw2560 (k : Fin 1024) (f : Fin 512) : (View.ld w (Rect.unit ![0, 2560] ![1024, 512] inb_S1024x3072_S1024x512_0_2560) : Vec Ideal S1024x512 .bf16) (ix2 k f) = w (ix2 k ⟨2560 + f.val, by omega⟩) :=
  View.ld_unit_apply_of _ _ _ _ _ _ (Fin.forall_fin_two.2 ⟨(Nat.zero_add k.val).symm, rfl⟩)
theorem ldv0 (f : Fin 512) (k : Fin 1024) : (View.ld wt (Rect.unit ![0, 0] ![512, 1024] inb_S1024x1024_S512x1024_0_0) : Vec Ideal S512x1024 .bf16) (ix2 f k) = wt (ix2 ⟨0 + f.val, by omega⟩ k) :=
  View.ld_unit_apply_of _ _ _ _ _ _ (Fin.forall_fin_two.2 ⟨rfl, (Nat.zero_add k.val).symm⟩)
theorem ldv512 (f : Fin 512) (k : Fin 1024) : (View.ld wt (Rect.unit ![512, 0] ![512, 1024] inb_S1024x1024_S512x1024_512_0) : Vec Ideal S512x1024 .bf16) (ix2 f k) = wt (ix2 ⟨512 + f.val, by omega⟩ k) :=
  View.ld_unit_apply_of _ _ _ _ _ _ (Fin.forall_fin_two.2 ⟨rfl, (Nat.zero_add k.val).symm⟩)
theorem ldx0 (r : Fin 256) (k : Fin 1024) : (View.ld x (Rect.unit ![0, 0, 0] ![1, 256, 1024] inb_S1x2048x1024_S1x256x1024_0_0_0) : Vec Ideal S1x256x1024 .f32) (ix3 0 r k) = x (ix3 0 ⟨0 + r.val, by omega⟩ k) :=
  View.ld_unit_apply_of _ _ _ _ _ _ (fun a => match a with | ⟨0, _⟩ => rfl | ⟨1, _⟩ => rfl | ⟨2, _⟩ => (Nat.zero_add k.val).symm)
theorem ldx256 (r : Fin 256) (k : Fin 1024) : (View.ld x (Rect.unit ![0, 256, 0] ![1, 256, 1024] inb_S1x2048x1024_S1x256x1024_0_256_0) : Vec Ideal S1x256x1024 .f32) (ix3 0 r k) = x (ix3 0 ⟨256 + r.val, by omega⟩ k) :=
  View.ld_unit_apply_of _ _ _ _ _ _ (fun a => match a with | ⟨0, _⟩ => rfl | ⟨1, _⟩ => rfl | ⟨2, _⟩ => (Nat.zero_add k.val).symm)
theorem ldx512 (r : Fin 256) (k : Fin 1024) : (View.ld x (Rect.unit ![0, 512, 0] ![1, 256, 1024] inb_S1x2048x1024_S1x256x1024_0_512_0) : Vec Ideal S1x256x1024 .f32) (ix3 0 r k) = x (ix3 0 ⟨512 + r.val, by omega⟩ k) :=
  View.ld_unit_apply_of _ _ _ _ _ _ (fun a => match a with | ⟨0, _⟩ => rfl | ⟨1, _⟩ => rfl | ⟨2, _⟩ => (Nat.zero_add k.val).symm)
theorem ldx768 (r : Fin 256) (k : Fin 1024) : (View.ld x (Rect.unit ![0, 768, 0] ![1, 256, 1024] inb_S1x2048x1024_S1x256x1024_0_768_0) : Vec Ideal S1x256x1024 .f32) (ix3 0 r k) = x (ix3 0 ⟨768 + r.val, by omega⟩ k) :=
  View.ld_unit_apply_of _ _ _ _ _ _ (fun a => match a with | ⟨0, _⟩ => rfl | ⟨1, _⟩ => rfl | ⟨2, _⟩ => (Nat.zero_add k.val).symm)
theorem ldx1024 (r : Fin 256) (k : Fin 1024) : (View.ld x (Rect.unit ![0, 1024, 0] ![1, 256, 1024] inb_S1x2048x1024_S1x256x1024_0_1024_0) : Vec Ideal S1x256x1024 .f32) (ix3 0 r k) = x (ix3 0 ⟨1024 + r.val, by omega⟩ k) :=
  View.ld_unit_apply_of _ _ _ _ _ _ (fun a => match a with | ⟨0, _⟩ => rfl | ⟨1, _⟩ => rfl | ⟨2, _⟩ => (Nat.zero_add k.val).symm)
theorem ldx1280 (r : Fin 256) (k : Fin 1024) : (View.ld x (Rect.unit ![0, 1280, 0] ![1, 256, 1024] inb_S1x2048x1024_S1x256x1024_0_1280_0) : Vec Ideal S1x256x1024 .f32) (ix3 0 r k) = x (ix3 0 ⟨1280 + r.val, by omega⟩ k) :=
  View.ld_unit_apply_of _ _ _ _ _ _ (fun a => match a with | ⟨0, _⟩ => rfl | ⟨1, _⟩ => rfl | ⟨2, _⟩ => (Nat.zero_add k.val).symm)
theorem ldx1536 (r : Fin 256) (k : Fin 1024) : (View.ld x (Rect.unit ![0, 1536, 0] ![1, 256, 1024] inb_S1x2048x1024_S1x256x1024_0_1536_0) : Vec Ideal S1x256x1024 .f32) (ix3 0 r k) = x (ix3 0 ⟨1536 + r.val, by omega⟩ k) :=
  View.ld_unit_apply_of _ _ _ _ _ _ (fun a => match a with | ⟨0, _⟩ => rfl | ⟨1, _⟩ => rfl | ⟨2, _⟩ => (Nat.zero_add k.val).symm)
theorem ldx1792 (r : Fin 256) (k : Fin 1024) : (View.ld x (Rect.unit ![0, 1792, 0] ![1, 256, 1024] inb_S1x2048x1024_S1x256x1024_0_1792_0) : Vec Ideal S1x256x1024 .f32) (ix3 0 r k) = x (ix3 0 ⟨1792 + r.val, by omega⟩ k) :=
  View.ld_unit_apply_of _ _ _ _ _ _ (fun a => match a with | ⟨0, _⟩ => rfl | ⟨1, _⟩ => rfl | ⟨2, _⟩ => (Nat.zero_add k.val).symm)
end

/-- What the body leaves in the convolution result's block. -/
theorem block9 (t : Fin cfg0.N) (R : Fin 2048) (d : Fin 512) :
    (outsAt0 m c t).2.2.2.1 (ix3 0 R d) = by9 (iblk m c 0 t) (iblk m c 1 t) (iblk m c 2 t) (iblk m c 4 t) (iblk m c 5 t) R d := by
  unfold outsAt0; frame_out
  canon_tiles x hh
  · idx_vars x
    obtain rfl : x0 = 0 := Subsingleton.elim _ _
    obtain rfl : d = x2 := Fin.ext hh2
    exact Eq.trans (congrFun (y7 _ _ _ _ _ _ _ _) _) (yBlk _ _ _ _ _ _ 1792 (by decide) (ldx1792 _) _ _ (ldw2048 _) (ldw2560 _) _ _ (ldw1536 _)
      (.inr ⟨by decide, fun i f => (congrFun (t6 _ _ _ _) _).trans (tBlk _ _ _ _ 1536 (by decide) (ldx1536 _) _ _ (ldw2048 _) (ldw2560 _) i f)⟩) x1 d R hh1)
  · idx_vars x
    obtain rfl : x0 = 0 := Subsingleton.elim _ _
    obtain rfl : d = x2 := Fin.ext hh2
    exact Eq.trans (congrFun (y6 _ _ _ _ _ _ _ _) _) (yBlk _ _ _ _ _ _ 1536 (by decide) (ldx1536 _) _ _ (ldw2048 _) (ldw2560 _) _ _ (ldw1536 _)
      (.inr ⟨by decide, fun i f => (congrFun (t5 _ _ _ _) _).trans (tBlk _ _ _ _ 1280 (by decide) (ldx1280 _) _ _ (ldw2048 _) (ldw2560 _) i f)⟩) x1 d R hh1)
  · idx_vars x
    obtain rfl : x0 = 0 := Subsingleton.elim _ _
    obtain rfl : d = x2 := Fin.ext hh2
    exact Eq.trans (congrFun (y5 _ _ _ _ _ _ _ _) _) (yBlk _ _ _ _ _ _ 1280 (by decide) (ldx1280 _) _ _ (ldw2048 _) (ldw2560 _) _ _ (ldw1536 _)
      (.inr ⟨by decide, fun i f => (congrFun (t4 _ _ _ _) _).trans (tBlk _ _ _ _ 1024 (by decide) (ldx1024 _) _ _ (ldw2048 _) (ldw2560 _) i f)⟩) x1 d R hh1)
  · idx_vars x
    obtain rfl : x0 = 0 := Subsingleton.elim _ _
    obtain rfl : d = x2 := Fin.ext hh2
    exact Eq.trans (congrFun (y4 _ _ _ _ _ _ _ _) _) (yBlk _ _ _ _ _ _ 1024 (by decide) (ldx1024 _) _ _ (ldw2048 _) (ldw2560 _) _ _ (ldw1536 _)
      (.inr ⟨by decide, fun i f => (congrFun (t3 _ _ _ _) _).trans (tBlk _ _ _ _ 768 (by decide) (ldx768 _) _ _ (ldw2048 _) (ldw2560 _) i f)⟩) x1 d R hh1)
  · idx_vars x
    obtain rfl : x0 = 0 := Subsingleton.elim _ _
    obtain rfl : d = x2 := Fin.ext hh2
    exact Eq.trans (congrFun (y3 _ _ _ _ _ _ _ _) _) (yBlk _ _ _ _ _ _ 768 (by decide) (ldx768 _) _ _ (ldw2048 _) (ldw2560 _) _ _ (ldw1536 _)
      (.inr ⟨by decide, fun i f => (congrFun (t2 _ _ _ _) _).trans (tBlk _ _ _ _ 512 (by decide) (ldx512 _) _ _ (ldw2048 _) (ldw2560 _) i f)⟩) x1 d R hh1)
  · idx_vars x
    obtain rfl : x0 = 0 := Subsingleton.elim _ _
    obtain rfl : d = x2 := Fin.ext hh2
    exact Eq.trans (congrFun (y2 _ _ _ _ _ _ _ _) _) (yBlk _ _ _ _ _ _ 512 (by decide) (ldx512 _) _ _ (ldw2048 _) (ldw2560 _) _ _ (ldw1536 _)
      (.inr ⟨by decide, fun i f => (congrFun (t1 _ _ _ _) _).trans (tBlk _ _ _ _ 256 (by decide) (ldx256 _) _ _ (ldw2048 _) (ldw2560 _) i f)⟩) x1 d R hh1)
  · idx_vars x
    obtain rfl : x0 = 0 := Subsingleton.elim _ _
    obtain rfl : d = x2 := Fin.ext hh2
    exact Eq.trans (rfl) (yBlk _ _ _ _ _ _ 256 (by decide) (ldx256 _) _ _ (ldw2048 _) (ldw2560 _) _ _ (ldw1536 _)
      (.inr ⟨by decide, fun i f => (congrFun (t0 _ _ _ _) _).trans (tBlk _ _ _ _ 0 (by decide) (ldx0 _) _ _ (ldw2048 _) (ldw2560 _) i f)⟩) x1 d R hh1)
  · idx_vars x
    obtain rfl : x0 = 0 := Subsingleton.elim _ _
    obtain rfl : d = x2 := Fin.ext hh2
    exact Eq.trans (congrFun (y0 _ _ _ _ _ _ _ _) _) (yBlk _ _ _ _ _ _ 0 (by decide) (ldx0 _) _ _ (ldw2048 _) (ldw2560 _) _ _ (ldw1536 _)
      (.inl ⟨rfl, rfl⟩) x1 d R (by simpa using hh1))

/-- What the body leaves in the keys' block. -/
theorem block7 (t : Fin cfg0.N) (R : Fin 2048) (d : Fin 512) :
    (outsAt0 m c t).2.1 (ix3 0 R d) = bp (iblk m c 0 t) (iblk m c 1 t) (iblk m c 2 t) R ⟨512 + d.val, by omega⟩ := by
  unfold outsAt0; frame_out
  canon_tiles x hh
  · idx_vars x
    obtain rfl : x0 = 0 := Subsingleton.elim _ _
    obtain rfl : d = x2 := Fin.ext hh2
    exact Eq.trans (congrFun (k7 _ _ _) _) ((k_at _ _ _ x1 d).trans ((upBlk _ _ _ _ 1792 (by decide) (ldx1792 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k6 _ _ _) _) ((k_at _ _ _ x1 d).trans ((upBlk _ _ _ _ 1536 (by decide) (ldx1536 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k5 _ _ _) _) ((k_at _ _ _ x1 d).trans ((upBlk _ _ _ _ 1280 (by decide) (ldx1280 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k4 _ _ _) _) ((k_at _ _ _ x1 d).trans ((upBlk _ _ _ _ 1024 (by decide) (ldx1024 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k3 _ _ _) _) ((k_at _ _ _ x1 d).trans ((upBlk _ _ _ _ 768 (by decide) (ldx768 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k2 _ _ _) _) ((k_at _ _ _ x1 d).trans ((upBlk _ _ _ _ 512 (by decide) (ldx512 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (rfl) ((k_at _ _ _ x1 d).trans ((upBlk _ _ _ _ 256 (by decide) (ldx256 _) _ 512 (by decide) (ldw512 _) x1 d).trans
      (congrArg (fun a => bp _ _ _ a _) (Fin.ext hh1.symm))))
  · idx_vars x
    obtain rfl : x0 = 0 := Subsingleton.elim _ _
    obtain rfl : d = x2 := Fin.ext hh2
    exact Eq.trans (congrFun (k0 _ _ _) _) ((k_at _ _ _ x1 d).trans ((upBlk _ _ _ _ 0 (by decide) (ldx0 _) _ 512 (by decide) (ldw512 _) x1 d).trans
      (congrArg (fun a => bp _ _ _ a _) (Fin.ext (by simpa using hh1.symm)))))

/-- What the body leaves in the queries' block. -/
theorem block6 (t : Fin cfg0.N) (n : Fin 8) (d : Fin 512) (r : Fin 256) :
    (outsAt0 m c t).1 (ix4 0 n d r) = bpT (iblk m c 0 t) (iblk m c 1 t) (iblk m c 3 t) ⟨n.val * 256 + r.val, by omega⟩ ⟨0 + d.val, by omega⟩ * qscale := by
  unfold outsAt0; frame_out
  canon_tiles x hh
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 7 := by simpa using hh1
    exact Eq.trans (congrFun (q7 _ _ _) _) ((q_at _ _ _ r d).trans (congrArg (· * qscale) ((upTBlk _ _ _ _ 1792 (by decide) (ldx1792 _) _ 0 (by decide) (ldv0 _) r d).trans
      (congrArg (fun a => bpT _ _ _ a _) (Fin.ext (by show 1792 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 6 := by simpa using hh1
    exact Eq.trans (congrFun (q6 _ _ _) _) ((q_at _ _ _ r d).trans (congrArg (· * qscale) ((upTBlk _ _ _ _ 1536 (by decide) (ldx1536 _) _ 0 (by decide) (ldv0 _) r d).trans
      (congrArg (fun a => bpT _ _ _ a _) (Fin.ext (by show 1536 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 5 := by simpa using hh1
    exact Eq.trans (congrFun (q5 _ _ _) _) ((q_at _ _ _ r d).trans (congrArg (· * qscale) ((upTBlk _ _ _ _ 1280 (by decide) (ldx1280 _) _ 0 (by decide) (ldv0 _) r d).trans
      (congrArg (fun a => bpT _ _ _ a _) (Fin.ext (by show 1280 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 4 := by simpa using hh1
    exact Eq.trans (congrFun (q4 _ _ _) _) ((q_at _ _ _ r d).trans (congrArg (· * qscale) ((upTBlk _ _ _ _ 1024 (by decide) (ldx1024 _) _ 0 (by decide) (ldv0 _) r d).trans
      (congrArg (fun a => bpT _ _ _ a _) (Fin.ext (by show 1024 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 3 := by simpa using hh1
    exact Eq.trans (congrFun (q3 _ _ _) _) ((q_at _ _ _ r d).trans (congrArg (· * qscale) ((upTBlk _ _ _ _ 768 (by decide) (ldx768 _) _ 0 (by decide) (ldv0 _) r d).trans
      (congrArg (fun a => bpT _ _ _ a _) (Fin.ext (by show 768 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 2 := by simpa using hh1
    exact Eq.trans (congrFun (q2 _ _ _) _) ((q_at _ _ _ r d).trans (congrArg (· * qscale) ((upTBlk _ _ _ _ 512 (by decide) (ldx512 _) _ 0 (by decide) (ldv0 _) r d).trans
      (congrArg (fun a => bpT _ _ _ a _) (Fin.ext (by show 512 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 1 := by simpa using hh1
    exact Eq.trans (rfl) ((q_at _ _ _ r d).trans (congrArg (· * qscale) ((upTBlk _ _ _ _ 256 (by decide) (ldx256 _) _ 0 (by decide) (ldv0 _) r d).trans
      (congrArg (fun a => bpT _ _ _ a _) (Fin.ext (by show 256 + r.val = n.val * 256 + r.val; rw [hn]))))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 0 := by simpa using hh1
    exact Eq.trans (congrFun (q0 _ _ _) _) ((q_at _ _ _ r d).trans (congrArg (· * qscale) ((upTBlk _ _ _ _ 0 (by decide) (ldx0 _) _ 0 (by decide) (ldv0 _) r d).trans
      (congrArg (fun a => bpT _ _ _ a _) (Fin.ext (by show 0 + r.val = n.val * 256 + r.val; rw [hn]))))))

/-- What the body leaves in the values' block. -/
theorem block8 (t : Fin cfg0.N) (n : Fin 8) (d : Fin 512) (r : Fin 256) :
    (outsAt0 m c t).2.2.1 (ix4 0 n d r) = bpT (iblk m c 0 t) (iblk m c 1 t) (iblk m c 3 t) ⟨n.val * 256 + r.val, by omega⟩ ⟨512 + d.val, by omega⟩ := by
  unfold outsAt0; frame_out
  canon_tiles x hh
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 7 := by simpa using hh1
    exact Eq.trans (congrFun (v7 _ _ _) _) ((v_at _ _ _ r d).trans ((upTBlk _ _ _ _ 1792 (by decide) (ldx1792 _) _ 512 (by decide) (ldv512 _) r d).trans
      (congrArg (fun a => bpT _ _ _ a _) (Fin.ext (by show 1792 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 6 := by simpa using hh1
    exact Eq.trans (congrFun (v6 _ _ _) _) ((v_at _ _ _ r d).trans ((upTBlk _ _ _ _ 1536 (by decide) (ldx1536 _) _ 512 (by decide) (ldv512 _) r d).trans
      (congrArg (fun a => bpT _ _ _ a _) (Fin.ext (by show 1536 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 5 := by simpa using hh1
    exact Eq.trans (congrFun (v5 _ _ _) _) ((v_at _ _ _ r d).trans ((upTBlk _ _ _ _ 1280 (by decide) (ldx1280 _) _ 512 (by decide) (ldv512 _) r d).trans
      (congrArg (fun a => bpT _ _ _ a _) (Fin.ext (by show 1280 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 4 := by simpa using hh1
    exact Eq.trans (congrFun (v4 _ _ _) _) ((v_at _ _ _ r d).trans ((upTBlk _ _ _ _ 1024 (by decide) (ldx1024 _) _ 512 (by decide) (ldv512 _) r d).trans
      (congrArg (fun a => bpT _ _ _ a _) (Fin.ext (by show 1024 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 3 := by simpa using hh1
    exact Eq.trans (congrFun (v3 _ _ _) _) ((v_at _ _ _ r d).trans ((upTBlk _ _ _ _ 768 (by decide) (ldx768 _) _ 512 (by decide) (ldv512 _) r d).trans
      (congrArg (fun a => bpT _ _ _ a _) (Fin.ext (by show 768 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 2 := by simpa using hh1
    exact Eq.trans (congrFun (v2 _ _ _) _) ((v_at _ _ _ r d).trans ((upTBlk _ _ _ _ 512 (by decide) (ldx512 _) _ 512 (by decide) (ldv512 _) r d).trans
      (congrArg (fun a => bpT _ _ _ a _) (Fin.ext (by show 512 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 1 := by simpa using hh1
    exact Eq.trans (rfl) ((v_at _ _ _ r d).trans ((upTBlk _ _ _ _ 256 (by decide) (ldx256 _) _ 512 (by decide) (ldv512 _) r d).trans
      (congrArg (fun a => bpT _ _ _ a _) (Fin.ext (by show 256 + r.val = n.val * 256 + r.val; rw [hn])))))
  · idx_vars x
    obtain rfl : x0 = 0 := Subsingleton.elim _ _
    obtain rfl : x1 = 0 := Subsingleton.elim _ _
    obtain rfl : d = x2 := Fin.ext hh2
    obtain rfl : r = x3 := Fin.ext hh3
    have hn : n.val = 0 := by simpa using hh1
    exact Eq.trans (congrFun (v0 _ _ _) _) ((v_at _ _ _ r d).trans ((upTBlk _ _ _ _ 0 (by decide) (ldx0 _) _ 512 (by decide) (ldv512 _) r d).trans
      (congrArg (fun a => bpT _ _ _ a _) (Fin.ext (by show 0 + r.val = n.val * 256 + r.val; rw [hn])))))

/-- The windows' index maps. -/
theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![t.val, 0, 0, 0] ∧ win0_7.index t = ![t.val, 0, 0]
    ∧ win0_8.index t = ![t.val, 0, 0, 0] ∧ win0_9.index t = ![t.val, 0, 0] ∧ t.val < 32 :=
  (by decide +kernel : ∀ t : Fin grid0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![t.val, 0, 0, 0] ∧ win0_7.index t = ![t.val, 0, 0]
    ∧ win0_8.index t = ![t.val, 0, 0, 0] ∧ win0_9.index t = ![t.val, 0, 0] ∧ t.val < 32)

theorem lt32 (t : Fin cfg0.N) : t.val < 32 := (idx t).2.2.2.2.2.2.2.2.2.2

theorem rd0 (t : Fin cfg0.N) (R : Fin 2048) (k : Fin 1024) : (iblk m c 0 t : Vec Ideal S1x2048x1024 .f32) (ix3 0 R k)
    = (m ((c.tc : Thread nD τ).loc main_arg0) : Vec Ideal S32x2048x1024 .f32) (ix3 ⟨t.val, lt32 t⟩ R k) := by
  blk_point [iblk, V, idx t]
theorem rd1 (t : Fin cfg0.N) (k : Fin 1024) : (iblk m c 1 t : Vec Ideal S1x1024 .f32) (ix2 0 k)
    = (m ((c.tc : Thread nD τ).loc main_arg1) : Vec Ideal S1024 .f32) (ix1 k) := by
  blk_point [iblk, V, idx t]
theorem rd2 (t : Fin cfg0.N) (k : Fin 1024) (f : Fin 3072) : (iblk m c 2 t : Vec Ideal S1024x3072 .bf16) (ix2 k f)
    = (m ((c.tc : Thread nD τ).loc main_arg2) : Vec Ideal S1024x3072 .f32) (ix2 k f) := by
  blk_point [iblk, V, idx t]
theorem rd4 (t : Fin cfg0.N) (k : Fin 3) (f : Fin 512) : (iblk m c 4 t : Vec Ideal S3x512 .f32) (ix2 k f)
    = (m ((c.tc : Thread nD τ).loc main_arg3) : Vec Ideal S3x512 .f32) (ix2 k f) := by
  blk_point [iblk, V, idx t]
theorem rd5 (t : Fin cfg0.N) (k : Fin 512) : (iblk m c 5 t : Vec Ideal S1x512 .f32) (ix2 0 k)
    = (m ((c.tc : Thread nD τ).loc main_arg4) : Vec Ideal S512 .f32) (ix1 k) := by
  blk_point [iblk, V, idx t]
theorem rd3 (t : Fin cfg0.N) (f k : Fin 1024) : (iblk m c 3 t : Vec Ideal S1024x1024 .bf16) (ix2 f k)
    = (V m c main_v4 : Vec Ideal S1024x1024 .bf16) (ix2 f k) := by
  blk_point [iblk, idx t]
/-- The transposed weights: the query columns first. -/
theorem rd3q (t : Fin cfg0.N) (d : Fin 512) (k : Fin 1024) : (iblk m c 3 t : Vec Ideal S1024x1024 .bf16) (ix2 ⟨0 + d.val, by omega⟩ k)
    = (m ((c.tc : Thread nD τ).loc main_arg2) : Vec Ideal S1024x3072 .f32) (ix2 k ⟨d.val, by omega⟩) := by
  rw [rd3]
  entry_read
  pointwise
/-- The transposed weights: then the value columns. -/
theorem rd3v (t : Fin cfg0.N) (d : Fin 512) (k : Fin 1024) : (iblk m c 3 t : Vec Ideal S1024x1024 .bf16) (ix2 ⟨512 + d.val, by omega⟩ k)
    = (m ((c.tc : Thread nD τ).loc main_arg2) : Vec Ideal S1024x3072 .f32) (ix2 k ⟨1024 + d.val, by omega⟩) := by
  rw [rd3]
  entry_read
  pointwise
end Cert.Proof.MixIdeal
end
-- ==== Proof.MixFinal.lean ====
module
public import proofs.«01_k».proof.Proof.MixValue

@[expose] public section
set_option maxRecDepth 16384
noncomputable section
open Idealize.ShloMosaic Idealize.ShloMosaic.TcCoe Idealize.SL.Sem
open Idealize.ShloMosaic.Pipeline (Dat)

/-! The mixer's entry: its four result arrays after the run, from the arguments. -/
namespace Cert.Proof.MixIdeal
open Cert.MixIdeal Cert.MixIdeal.Gen Cert.Proof.Ffn Cert.Proof.Mix

variable (m : (ℓ : Loc nD τ sig) → Buf (Elt Ideal) ℓ) (c : Dev nD)

abbrev aX : FVec Ideal S32x2048x1024 .f32 := m ((c.tc : Thread nD τ).loc main_arg0)
abbrev aG : FVec Ideal S1024 .f32 := m ((c.tc : Thread nD τ).loc main_arg1)
abbrev aW : FVec Ideal S1024x3072 .f32 := m ((c.tc : Thread nD τ).loc main_arg2)
abbrev aC : FVec Ideal S3x512 .f32 := m ((c.tc : Thread nD τ).loc main_arg3)
abbrev aH : FVec Ideal S512 .f32 := m ((c.tc : Thread nD τ).loc main_arg4)

variable (t : Fin cfg0.N)

theorem bp_eq (R : Fin 2048) (f : Fin 3072) : bp (iblk m c 0 t) (iblk m c 1 t) (iblk m c 2 t) R f = pj (aX m c) (aG m c) (aW m c) ⟨t.val, lt32 t⟩ R f := by
  unfold bp pj
  simp only [rd0 m c t, rd1 m c t, rd2 m c t]
theorem bpq_eq (R : Fin 2048) (d : Fin 512) : bpT (iblk m c 0 t) (iblk m c 1 t) (iblk m c 3 t) R ⟨0 + d.val, by omega⟩
    = pj (aX m c) (aG m c) (aW m c) ⟨t.val, lt32 t⟩ R ⟨d.val, by omega⟩ := by
  unfold bpT pj
  simp only [rd0 m c t, rd1 m c t, rd3q m c t]
theorem bpv_eq (R : Fin 2048) (d : Fin 512) : bpT (iblk m c 0 t) (iblk m c 1 t) (iblk m c 3 t) R ⟨512 + d.val, by omega⟩
    = pj (aX m c) (aG m c) (aW m c) ⟨t.val, lt32 t⟩ R ⟨1024 + d.val, by omega⟩ := by
  unfold bpT pj
  simp only [rd0 m c t, rd1 m c t, rd3v m c t]
theorem bz_eq (R : Fin 2048) (d : Fin 512) : bz (iblk m c 0 t) (iblk m c 1 t) (iblk m c 2 t) R d = zAt (aX m c) (aG m c) (aW m c) ⟨t.val, lt32 t⟩ R d := by
  unfold bz zAt
  simp only [bp_eq m c t]
/-- The rows above, read through the block after eight rows of zeros, are the sequence's. -/
theorem above_eq (n : ℕ) (hn : n ≤ 8) (R : Fin 2048) (d : Fin 512) :
    blkAbove (k0_pay4 (F := Ideal)) (bz (iblk m c 0 t) (iblk m c 1 t) (iblk m c 2 t)) n hn R d
      = before n (fun s => zAt (aX m c) (aG m c) (aW m c) ⟨t.val, lt32 t⟩ s d) R := by
  unfold blkAbove before
  by_cases h : R.val < n
  · rw [dif_pos h, dif_neg (by omega)]
    exact t_zero d _
  · rw [dif_neg h, dif_pos (by omega)]
    exact bz_eq m c t _ d
theorem by9_eq (R : Fin 2048) (d : Fin 512) : by9 (iblk m c 0 t) (iblk m c 1 t) (iblk m c 2 t) (iblk m c 4 t) (iblk m c 5 t) R d
    = ycAt (aX m c) (aG m c) (aW m c) (aC m c) (aH m c) ⟨t.val, lt32 t⟩ R d := by
  unfold by9 ycAt yAt
  simp only [bp_eq m c t, bz_eq m c t, above_eq m c t, rd4 m c t, rd5 m c t]

/-- The queries after the run. -/
theorem final6 : (dats m 0 c).arrAt 6 cfg0.N = fun i : S32x8x512x256.Idx => qAt (aX m c) (aG m c) (aW m c) (i 0) (i 1) (i 2) (i 3) := by
  refine (dats m 0 c).arrAt_eq_of_covers 6 _ (by decide +kernel) fun t hf y => ?_
  blk_simp
  rw [after0_6]
  idx_vars y
  obtain rfl : y0 = 0 := Subsingleton.elim _ _
  refine (block6 m c t y1 y2 y3).trans ((congrArg (· * qscale) (bpq_eq m c t _ y2)).trans ?_)
  have e : ((cfg0.win 6).blk t).view.emb (ix4 0 y1 y2 y3) = ix4 (⟨t.val, lt32 t⟩ : Fin 32) y1 y2 y3 := by
    blk_ext [idx t]
  exact (congrArg (fun i : S32x8x512x256.Idx => qAt (aX m c) (aG m c) (aW m c) (i 0) (i 1) (i 2) (i 3)) e).symm
/-- The keys after the run. -/
theorem final7 : (dats m 0 c).arrAt 7 cfg0.N = fun i : S32x2048x512.Idx => kAt (aX m c) (aG m c) (aW m c) (i 0) (i 1) (i 2) := by
  refine (dats m 0 c).arrAt_eq_of_covers 7 _ (by decide +kernel) fun t hf y => ?_
  blk_simp
  rw [after0_7]
  idx_vars y
  obtain rfl : y0 = 0 := Subsingleton.elim _ _
  refine (block7 m c t y1 y2).trans ((bp_eq m c t _ _).trans ?_)
  have e : ((cfg0.win 7).blk t).view.emb (ix3 0 y1 y2) = ix3 (⟨t.val, lt32 t⟩ : Fin 32) y1 y2 := by
    blk_ext [idx t]
  exact (congrArg (fun i : S32x2048x512.Idx => kAt (aX m c) (aG m c) (aW m c) (i 0) (i 1) (i 2)) e).symm
/-- The values after the run. -/
theorem final8 : (dats m 0 c).arrAt 8 cfg0.N = fun i : S32x8x512x256.Idx => vAt (aX m c) (aG m c) (aW m c) (i 0) (i 1) (i 2) (i 3) := by
  refine (dats m 0 c).arrAt_eq_of_covers 8 _ (by decide +kernel) fun t hf y => ?_
  blk_simp
  rw [after0_8]
  idx_vars y
  obtain rfl : y0 = 0 := Subsingleton.elim _ _
  refine (block8 m c t y1 y2 y3).trans ((bpv_eq m c t _ y2).trans ?_)
  have e : ((cfg0.win 8).blk t).view.emb (ix4 0 y1 y2 y3) = ix4 (⟨t.val, lt32 t⟩ : Fin 32) y1 y2 y3 := by
    blk_ext [idx t]
  exact (congrArg (fun i : S32x8x512x256.Idx => vAt (aX m c) (aG m c) (aW m c) (i 0) (i 1) (i 2) (i 3)) e).symm
/-- The convolution group's result after the run. -/
theorem final9 : (dats m 0 c).arrAt 9 cfg0.N = fun i : S32x2048x512.Idx => ycAt (aX m c) (aG m c) (aW m c) (aC m c) (aH m c) (i 0) (i 1) (i 2) := by
  refine (dats m 0 c).arrAt_eq_of_covers 9 _ (by decide +kernel) fun t hf y => ?_
  blk_simp
  rw [after0_9]
  idx_vars y
  obtain rfl : y0 = 0 := Subsingleton.elim _ _
  refine (block9 m c t y1 y2).trans ((by9_eq m c t _ _).trans ?_)
  have e : ((cfg0.win 9).blk t).view.emb (ix3 0 y1 y2) = ix3 (⟨t.val, lt32 t⟩ : Fin 32) y1 y2 := by
    blk_ext [idx t]
  exact (congrArg (fun i : S32x2048x512.Idx => ycAt (aX m c) (aG m c) (aW m c) (aC m c) (aH m c) (i 0) (i 1) (i 2)) e).symm
end Cert.Proof.MixIdeal
end
-- ==== Proof.MixRefPure.lean ====
module
public import proofs.«01_k».proof.Proof.MixMath
public import proofs.«01_k».proof.Proof.Gen.MixRefIdeal.Run
public import Idealize.ShloMosaic.Lib.Pointwise

@[expose] public section
set_option maxRecDepth 16384
noncomputable section
open Idealize.ShloMosaic Idealize.ShloMosaic.TcCoe Idealize.SL.Sem
namespace Cert.Proof.MixRefIdeal
open Cert.MixRefIdeal Cert.MixRefIdeal.Gen Cert.MixRefIdeal.Value Cert.Proof.Ffn Cert.Proof.Mix

variable (m : (ℓ : Loc nD τ sig) → Buf (Elt Ideal) ℓ) (c : Dev nD)

abbrev aX : FVec Ideal S32x2048x1024 .f32 := m ((c.tc : Thread nD τ).loc main_arg0)
abbrev aG : FVec Ideal S1024 .f32 := m ((c.tc : Thread nD τ).loc main_arg1)
abbrev aW : FVec Ideal S1024x3072 .f32 := m ((c.tc : Thread nD τ).loc main_arg2)
abbrev aC : FVec Ideal S3x512 .f32 := m ((c.tc : Thread nD τ).loc main_arg3)
abbrev aH : FVec Ideal S512 .f32 := m ((c.tc : Thread nD τ).loc main_arg4)

/-- An entry of the convolution group's result. -/
theorem yc_at (b : Fin 32) (s : Fin 2048) (d : Fin 512) :
    res_main_v65 (F := Ideal) m c (ix3 b s d) = ycAt (aX m c) (aG m c) (aW m c) (aC m c) (aH m c) b s d := by
  unfold ycAt yAt
  rw [← two_eq, ← one_eq]
  pointwise [res_main_v65]
  rfl

/-- The reference ends with its four results at the functions above. -/
theorem run_at (ρ : Dev nD → PrngReg) :
    θ_run defs (onTc (τ := τ) (main (F := Ideal))) ⟨m, fun _ => 0, ρ⟩ fun r => ∀ c : Dev nD,
      r.2.mem ((c.tc : Thread nD τ).loc main_v60) = (fun i : S32x8x512x256.Idx => qAt (aX m c) (aG m c) (aW m c) (i 0) (i 1) (i 2) (i 3))
      ∧ r.2.mem ((c.tc : Thread nD τ).loc main_v61) = (fun i : S32x2048x512.Idx => kAt (aX m c) (aG m c) (aW m c) (i 0) (i 1) (i 2))
      ∧ r.2.mem ((c.tc : Thread nD τ).loc main_v64) = (fun i : S32x8x512x256.Idx => vAt (aX m c) (aG m c) (aW m c) (i 0) (i 1) (i 2) (i 3))
      ∧ r.2.mem ((c.tc : Thread nD τ).loc main_v65) = (fun i : S32x2048x512.Idx => ycAt (aX m c) (aG m c) (aW m c) (aC m c) (aH m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (funext fun i => ?_), (h c).2.1.trans (funext fun i => ?_), (h c).2.2.1.trans (funext fun i => ?_),
    (h c).2.2.2.1.trans (funext fun i => ?_), (h c).2.2.2.2⟩) (run (F := Ideal) m ρ)
  · refine Eq.trans (congrArg _ (ix4_eta i).symm) ?_
    generalize i 0 = b; generalize i 1 = n; generalize i 2 = d; generalize i 3 = r
    pointwise
    rfl
  · refine Eq.trans (congrArg _ (ix3_eta i).symm) ?_
    generalize i 0 = b; generalize i 1 = s; generalize i 2 = d
    pointwise
    rfl
  · refine Eq.trans (congrArg _ (ix4_eta i).symm) ?_
    generalize i 0 = b; generalize i 1 = n; generalize i 2 = d; generalize i 3 = r
    pointwise
    rfl
  · exact (congrArg _ (ix3_eta i).symm).trans (yc_at m c (i 0) (i 1) (i 2))
end Cert.Proof.MixRefIdeal
end
-- ==== Proof.MixTie.lean ====
module
public import proofs.«01_k».proof.Defs
public import proofs.«01_k».proof.Proof.MixFinal
public import proofs.«01_k».proof.Proof.MixRefPure
public import proofs.«01_k».proof.Proof.Gen.MixRefIdeal.Run
public import Idealize.ShloMosaic.Lib.Claim
public import Idealize.ShloMosaic.Adequacy

@[expose] public section
set_option maxRecDepth 16384
noncomputable section
open Idealize.ShloMosaic Idealize.ShloMosaic.TcCoe Idealize.SL.Sem
namespace Cert.Proof.MixTie
open Cert Cert.Proof.Mix

/-- The reference ends with its arguments unchanged and every counter zero. -/
theorem ref_quiet : quiescent_MixRefIdeal (hMixRefIdeal := Cert.MixRefIdeal.Gen.facts) := fun m ρ _ =>
  (θ_run Cert.MixRefIdeal.defs _ _).mono (fun r h => ⟨fun c => (h c).2.2.2.2, sem_eq_zero_of_no_sems (by decide) r.2⟩)
    (Cert.Proof.MixRefIdeal.run_at m ρ)

/-- The kernel's and the reference's four results are equal as extended reals. -/
theorem tie : algebraic_MixIdeal_MixRefIdeal (hMixIdeal := Cert.MixIdeal.Gen.facts) (hMixRefIdeal := Cert.MixRefIdeal.Gen.facts) := by
  intro m ρ m' ρ' _ hagree
  refine ⟨_, _, _, _, (θ_run Cert.MixIdeal.defs _ _).mono (fun _ h c => ⟨(h c).1, (h c).2.1, (h c).2.2.1, (h c).2.2.2.1, (h c).2.2.2.2.2⟩)
    (Cert.MixIdeal.Value.run_blocks (F := Ideal) m ρ), ?_⟩
  refine (θ_run Cert.MixRefIdeal.defs _ _).mono (fun _ h c => ⟨?_, ?_, ?_, ?_, (h c).2.2.2.2⟩) (Cert.Proof.MixRefIdeal.run_at m' ρ')
  all_goals obtain ⟨h0, h1, h2, h3, h4⟩ := hagree c
  · rw [(h c).1, Cert.Proof.MixIdeal.final6 m c]
    unfold Cert.Proof.MixRefIdeal.aX Cert.Proof.MixRefIdeal.aG Cert.Proof.MixRefIdeal.aW
    rw [h0, h1, h2]
  · rw [(h c).2.1, Cert.Proof.MixIdeal.final7 m c]
    unfold Cert.Proof.MixRefIdeal.aX Cert.Proof.MixRefIdeal.aG Cert.Proof.MixRefIdeal.aW
    rw [h0, h1, h2]
  · rw [(h c).2.2.1, Cert.Proof.MixIdeal.final8 m c]
    unfold Cert.Proof.MixRefIdeal.aX Cert.Proof.MixRefIdeal.aG Cert.Proof.MixRefIdeal.aW
    rw [h0, h1, h2]
  · rw [(h c).2.2.2.1, Cert.Proof.MixIdeal.final9 m c]
    unfold Cert.Proof.MixRefIdeal.aX Cert.Proof.MixRefIdeal.aG Cert.Proof.MixRefIdeal.aW Cert.Proof.MixRefIdeal.aC Cert.Proof.MixRefIdeal.aH
    rw [h0, h1, h2, h3, h4]
end Cert.Proof.MixTie
end
-- ==== Proof.lean ====
module

public import proofs.«01_k».proof.Defs
public import proofs.«01_k».proof.Proof.AttnFrame
public import proofs.«01_k».proof.Proof.AttnIdealFrame
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnTie
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.CrossTie
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.MixTie
public import Idealize.ShloMosaic.Adequacy
public import Idealize.ShloMosaic.Init

@[expose] public section

noncomputable section

namespace Cert.Proof

open Idealize.ShloMosaic Idealize.SL.Sem

/-- Everything stated in `Cert.Claim`. -/
theorem claim : Cert.Claim := ⟨Cert.Attn.Gen.facts, Cert.AttnIdeal.Gen.facts, Cert.Ffn.Gen.facts, Cert.FfnIdeal.Gen.facts, Cert.FfnRefIdeal.Gen.facts,
  Cert.Cross.Gen.facts, Cert.CrossIdeal.Gen.facts, Cert.CrossRefIdeal.Gen.facts, Cert.Mix.Gen.facts, Cert.MixIdeal.Gen.facts, Cert.MixRefIdeal.Gen.facts,
  Cert.Proof.CrossPre.facts,
  fun m ρ _ => Cert.Proof.Attn.frame m ρ, fun m ρ _ => Cert.Proof.AttnIdeal.frame m ρ,
  fun m ρ _ => Cert.Ffn.Gen.frame m ρ, fun m ρ _ => Cert.FfnIdeal.Gen.frame m ρ, Cert.Proof.FfnTie.ref_quiet,
  fun m ρ _ => Cert.Cross.Gen.frame m ρ, fun m ρ _ => Cert.CrossIdeal.Gen.frame m ρ, fun m ρ _ => Cert.CrossIdeal.Gen.frame m ρ,
  Cert.Proof.CrossTie.ref_quiet, fun m ρ _ => Cert.Proof.CrossTie.ref_quiet m ρ trivial,
  fun m ρ _ => Cert.Mix.Gen.frame m ρ, fun m ρ _ => Cert.MixIdeal.Gen.frame m ρ, Cert.Proof.MixTie.ref_quiet,
  IdealRules.named_const.statement Cert.AttnIdeal.κ "mask" .f32 0xF149F2CA#32 ⊥ rfl, (trivial : Cert.preserves_Ffn_FfnIdeal), Cert.Proof.FfnTie.tie,
  IdealRules.named_const.statement Cert.CrossIdeal.κ "log2e_over_16" .f32 0x3DB8AA3B#32 (((Real.log 2)⁻¹ * (1 / 16) : ℝ) : EReal) rfl, Cert.Proof.CrossTie.tie,
  (trivial : Cert.preserves_Mix_MixIdeal), Cert.Proof.MixTie.tie⟩

end Cert.Proof

end
